-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ preserves_Kernel_KernelIdeal
    ∧ algebraic_KernelIdeal_ReferenceIdeal_pre_finite_args (hKernelIdeal := hKernelIdeal) (hReferenceIdeal := hReferenceIdeal) (hPre_finite_args := hPre_finite_args)
-- ==== Pre_finite_args.lean ====
abbrev S2x2048x2048 : Shape := ⟨3, ![2, 2048, 2048]⟩
abbrev S2048x2048 : Shape := ⟨2, ![2048, 2048]⟩
abbrev S2048 : Shape := ⟨1, ![2048]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048 .f32) (main_arg8 : FVec F S2048 .f32) (main_arg9 : FVec F S2048x2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  main_v48

def fn_part1 {F : FTy → Type} [FloatOps F] (main_arg4 : FVec F S2048 .f32) (main_arg5 : FVec F S2048x2048 .f32) (main_arg6 : FVec F S2048 .f32) (main_arg7 : FVec F S2048 .f32) (main_arg8 : FVec F S2048 .f32) (main_arg9 : FVec F S2048x2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_v33

def fn {F : FTy → Type} [FloatOps F] (main_arg0 : FVec F S2x2048x2048 .f32) (main_arg1 : FVec F S2048x2048 .f32) (main_arg2 : FVec F S2048 .f32) (main_arg3 : FVec F S2048x2048 .f32) (main_arg4 : FVec F S2048 .f32) (main_arg5 : FVec F S2048x2048 .f32) (main_arg6 : FVec F S2048 .f32) (main_arg7 : FVec F S2048 .f32) (main_arg8 : FVec F S2048 .f32) (main_arg9 : FVec F S2048x2048 .f32) (main_arg10 : FVec F S2048 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_v13 main_v16
-- ==== Kernel.lean ====
abbrev S2x2048x2048 : Shape := ⟨3, ![2, 2048, 2048]⟩
abbrev S2048x2048 : Shape := ⟨2, ![2048, 2048]⟩
abbrev S2048 : Shape := ⟨1, ![2048]⟩
abbrev S4096x2048 : Shape := ⟨2, ![4096, 2048]⟩
abbrev S1x2048 : Shape := ⟨2, ![1, 2048]⟩
abbrev S4096x6144 : Shape := ⟨2, ![4096, 6144]⟩
abbrev S256x2048 : Shape := ⟨2, ![256, 2048]⟩
abbrev S256x6144 : Shape := ⟨2, ![256, 6144]⟩
abbrev S256 : Shape := ⟨1, ![256]⟩
abbrev S256x1 : Shape := ⟨2, ![256, 1]⟩
abbrev S2x2048x6144 : Shape := ⟨3, ![2, 2048, 6144]⟩
abbrev S1x512x2048 : Shape := ⟨3, ![1, 512, 2048]⟩
abbrev S1x2048x2048 : Shape := ⟨3, ![1, 2048, 2048]⟩
abbrev S512x2048 : Shape := ⟨2, ![512, 2048]⟩
abbrev S512x128 : Shape := ⟨2, ![512, 128]⟩
abbrev S2048x128 : Shape := ⟨2, ![2048, 128]⟩
abbrev S2048x256 : Shape := ⟨2, ![2048, 256]⟩
abbrev S512x1 : Shape := ⟨2, ![512, 1]⟩
abbrev S512x256 : Shape := ⟨2, ![512, 256]⟩
abbrev S256x128 : Shape := ⟨2, ![256, 128]⟩
abbrev S512 : Shape := ⟨1, ![512]⟩
abbrev S256x256 : Shape := ⟨2, ![256, 256]⟩

abbrev nBuf : Space → Nat
  | .hbm => 27
  | .vmem => 21
  | .smem => 0
  | _ => 0

abbrev bufTy : (tb : Table) → Fin (tcTables nBuf tb) → BufTy
  | .hbm, ⟨0, _⟩ => ⟨S2x2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S4096x2048, .f32⟩
  | .hbm, ⟨12, _⟩ => ⟨S2048x2048, .bf16⟩
  | .hbm, ⟨13, _⟩ => ⟨S2048x2048, .bf16⟩
  | .hbm, ⟨14, _⟩ => ⟨S2048x2048, .bf16⟩
  | .hbm, ⟨15, _⟩ => ⟨S2048x2048, .bf16⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S2048x2048, .f32⟩
  | .hbm, ⟨21, _⟩ => ⟨S2048, .f32⟩
  | .hbm, ⟨22, _⟩ => ⟨S2048, .f32⟩
  | .hbm, ⟨23, _⟩ => ⟨S1x2048, .f32⟩
  | .hbm, ⟨24, _⟩ => ⟨S4096x6144, .bf16⟩
  | .hbm, ⟨25, _⟩ => ⟨S2x2048x6144, .bf16⟩
  | .hbm, ⟨26, _⟩ => ⟨S2x2048x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S2048x2048, .bf16⟩
  | .local _ .vmem, ⟨4, _⟩ => ⟨S2048x2048, .bf16⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S256x6144, .bf16⟩
  | .local _ .vmem, ⟨10, _⟩ => ⟨S256x6144, .bf16⟩
  | .local _ .vmem, ⟨11, _⟩ => ⟨S1x512x2048, .bf16⟩
  | .local _ .vmem, ⟨12, _⟩ => ⟨S1x512x2048, .bf16⟩
  | .local _ .vmem, ⟨13, _⟩ => ⟨S1x2048x2048, .bf16⟩
  | .local _ .vmem, ⟨14, _⟩ => ⟨S1x2048x2048, .bf16⟩
  | .local _ .vmem, ⟨15, _⟩ => ⟨S1x2048x2048, .bf16⟩
  | .local _ .vmem, ⟨16, _⟩ => ⟨S1x2048x2048, .bf16⟩
  | .local _ .vmem, ⟨17, _⟩ => ⟨S2048x2048, .bf16⟩
  | .local _ .vmem, ⟨18, _⟩ => ⟨S1x2048, .f32⟩
  | .local _ .vmem, ⟨19, _⟩ => ⟨S1x512x2048, .f32⟩
  | .local _ .vmem, ⟨20, _⟩ => ⟨S1x512x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x6144 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![2, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S2048x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x512x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== KernelIdeal.lean ====
variable {F : FTy → Type} [FloatOps F] [Named F]
def κ : String → Option EReal := fun
  | "scale_log2e" => some (((11863283 / 134217728) * (Real.log 2)⁻¹ : ℝ) : EReal)
  | _ => none
-- ==== ReferenceIdeal.lean ====
abbrev S2x2048x2048 : Shape := ⟨3, ![2, 2048, 2048]⟩
abbrev S2048x2048 : Shape := ⟨2, ![2048, 2048]⟩
abbrev S2048 : Shape := ⟨1, ![2048]⟩
abbrev S1x1x2048 : Shape := ⟨3, ![1, 1, 2048]⟩
abbrev S_ : Shape := ⟨0, ![]⟩
abbrev S2x2048 : Shape := ⟨2, ![2, 2048]⟩
abbrev S2x2048x1 : Shape := ⟨3, ![2, 2048, 1]⟩
abbrev S2x2048x16x128 : Shape := ⟨4, ![2, 2048, 16, 128]⟩
abbrev S2x16x2048x128 : Shape := ⟨4, ![2, 16, 2048, 128]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩

abbrev nBuf : Space → Nat
  | .hbm => 90
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2x2048x2048, .f32⟩
  | .hbm, ⟨13, _⟩ => ⟨S1x1x2048, .f32⟩
  | .hbm, ⟨14, _⟩ => ⟨S2x2048x2048, .f32⟩
  | .hbm, ⟨15, _⟩ => ⟨S2x2048x2048, .f32⟩
  | .hbm, ⟨16, _⟩ => ⟨S2048x2048, .f32⟩
  | .hbm, ⟨17, _⟩ => ⟨S2x2048x2048, .f32⟩
  | .hbm, ⟨18, _⟩ => ⟨S1x1x2048, .f32⟩
  | .hbm, ⟨19, _⟩ => ⟨S2x2048x2048, .f32⟩
  | .hbm, ⟨20, _⟩ => ⟨S2x2048x2048, .f32⟩
  | .hbm, ⟨21, _⟩ => ⟨S2048x2048, .f32⟩
  | .hbm, ⟨22, _⟩ => ⟨S2x2048x2048, .f32⟩
  | .hbm, ⟨23, _⟩ => ⟨S1x1x2048, .f32⟩
  | .hbm, ⟨24, _⟩ => ⟨S2x2048x2048, .f32⟩
  | .hbm, ⟨25, _⟩ => ⟨S2x2048x2048, .f32⟩
  | .hbm, ⟨26, _⟩ => ⟨S2x2048x2048, .f32⟩
  | .hbm, ⟨27, _⟩ => ⟨S_, .f32⟩
  | .hbm, ⟨28, _⟩ => ⟨S2x2048, .f32⟩
  | .hbm, ⟨29, _⟩ => ⟨S2x2048x1, .f32⟩
  | .hbm, ⟨30, _⟩ => ⟨S_, .f32⟩
  | .hbm, ⟨31, _⟩ => ⟨S2x2048x1, .f32⟩
  | .hbm, ⟨32, _⟩ => ⟨S2x2048x1, .f32⟩
  | .hbm, ⟨33, _⟩ => ⟨S_, .f32⟩
  | .hbm, ⟨34, _⟩ => ⟨S2x2048x1, .f32⟩
  | .hbm, ⟨35, _⟩ => ⟨S2x2048x1, .f32⟩
  | .hbm, ⟨36, _⟩ => ⟨S2x2048x1, .f32⟩
  | .hbm, ⟨37, _⟩ => ⟨S2x2048x2048, .f32⟩
  | .hbm, ⟨38, _⟩ => ⟨S2x2048x2048, .f32⟩
  | .hbm, ⟨39, _⟩ => ⟨S1x1x2048, .f32⟩
  | .hbm, ⟨40, _⟩ => ⟨S2x2048x2048, .f32⟩
  | .hbm, ⟨41, _⟩ => ⟨S2x2048x2048, .f32⟩
  | .hbm, ⟨42, _⟩ => ⟨S2x2048x2048, .f32⟩
  | .hbm, ⟨43, _⟩ => ⟨S_, .f32⟩
  | .hbm, ⟨44, _⟩ => ⟨S2x2048, .f32⟩
  | .hbm, ⟨45, _⟩ => ⟨S2x2048x1, .f32⟩
  | .hbm, ⟨46, _⟩ => ⟨S_, .f32⟩
  | .hbm, ⟨47, _⟩ => ⟨S2x2048x1, .f32⟩
  | .hbm, ⟨48, _⟩ => ⟨S2x2048x1, .f32⟩
  | .hbm, ⟨49, _⟩ => ⟨S_, .f32⟩
  | .hbm, ⟨50, _⟩ => ⟨S2x2048x1, .f32⟩
  | .hbm, ⟨51, _⟩ => ⟨S2x2048x1, .f32⟩
  | .hbm, ⟨52, _⟩ => ⟨S2x2048x1, .f32⟩
  | .hbm, ⟨53, _⟩ => ⟨S2x2048x2048, .f32⟩
  | .hbm, ⟨54, _⟩ => ⟨S2x2048x2048, .f32⟩
  | .hbm, ⟨55, _⟩ => ⟨S1x1x2048, .f32⟩
  | .hbm, ⟨56, _⟩ => ⟨S2x2048x2048, .f32⟩
  | .hbm, ⟨57, _⟩ => ⟨S2x2048x2048, .f32⟩
  | .hbm, ⟨58, _⟩ => ⟨S2x2048x16x128, .f32⟩
  | .hbm, ⟨59, _⟩ => ⟨S2x16x2048x128, .f32⟩
  | .hbm, ⟨60, _⟩ => ⟨S2x2048x16x128, .f32⟩
  | .hbm, ⟨61, _⟩ => ⟨S2x16x2048x128, .f32⟩
  | .hbm, ⟨62, _⟩ => ⟨S2x2048x16x128, .f32⟩
  | .hbm, ⟨63, _⟩ => ⟨S2x16x2048x128, .f32⟩
  | .hbm, ⟨64, _⟩ => ⟨S2x16x2048x2048, .f32⟩
  | .hbm, ⟨65, _⟩ => ⟨S_, .f32⟩
  | .hbm, ⟨66, _⟩ => ⟨S2x16x2048x2048, .f32⟩
  | .hbm, ⟨67, _⟩ => ⟨S2x16x2048x2048, .f32⟩
  | .hbm, ⟨68, _⟩ => ⟨S_, .f32⟩
  | .hbm, ⟨69, _⟩ => ⟨S2x16x2048, .f32⟩
  | .hbm, ⟨70, _⟩ => ⟨S_, .f32⟩
  | .hbm, ⟨71, _⟩ => ⟨S2x16x2048, .f32⟩
  | .hbm, ⟨72, _⟩ => ⟨S2x16x2048, .f32⟩
  | .hbm, ⟨73, _⟩ => ⟨S2x16x2048x1, .f32⟩
  | .hbm, ⟨74, _⟩ => ⟨S2x16x2048x2048, .f32⟩
  | .hbm, ⟨75, _⟩ => ⟨S2x16x2048x2048, .f32⟩
  | .hbm, ⟨76, _⟩ => ⟨S2x16x2048x2048, .f32⟩
  | .hbm, ⟨77, _⟩ => ⟨S_, .f32⟩
  | .hbm, ⟨78, _⟩ => ⟨S2x16x2048, .f32⟩
  | .hbm, ⟨79, _⟩ => ⟨S2x16x2048x1, .f32⟩
  | .hbm, ⟨80, _⟩ => ⟨S2x16x2048x2048, .f32⟩
  | .hbm, ⟨81, _⟩ => ⟨S2x16x2048x2048, .f32⟩
  | .hbm, ⟨82, _⟩ => ⟨S2x16x2048x128, .f32⟩
  | .hbm, ⟨83, _⟩ => ⟨S2x2048x16x128, .f32⟩
  | .hbm, ⟨84, _⟩ => ⟨S2x2048x2048, .f32⟩
  | .hbm, ⟨85, _⟩ => ⟨S2048x2048, .f32⟩
  | .hbm, ⟨86, _⟩ => ⟨S2x2048x2048, .f32⟩
  | .hbm, ⟨87, _⟩ => ⟨S1x1x2048, .f32⟩
  | .hbm, ⟨88, _⟩ => ⟨S2x2048x2048, .f32⟩
  | .hbm, ⟨89, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_5 : Ref sig .tc := ⟨.hbm, 65, rfl⟩
abbrev main_v48 : Ref sig .tc := ⟨.hbm, 66, rfl⟩
abbrev main_v49 : Ref sig .tc := ⟨.hbm, 67, rfl⟩
abbrev main_cst_6 : Ref sig .tc := ⟨.hbm, 68, rfl⟩
abbrev main_v50 : Ref sig .tc := ⟨.hbm, 69, rfl⟩
abbrev main_cst_7 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_8 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩

abbrev nD : Nat := 1
abbrev τ : Topo := Topo.v7x

variable {F : FTy → Type} [FloatOps F]
-- ==== Proof.Frames.lean ====
/- The claims that need no values: every program of this directory runs to its end and leaves its arguments alone, and the
   idealized kernel differs from the printed one only by the constant it names. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_finite_args
public import Idealize.ShloMosaic.Lib.Quiescent

@[expose] public section

noncomputable section

open Idealize.ShloMosaic Idealize.ShloMosaic.TcCoe Idealize.SL.Sem

namespace Cert.Proof

/-- The printed kernel runs, leaves its arguments as they were and every counter at zero. -/
theorem frame_kernel : Cert.quiescent_Kernel := fun m ρ _ => Cert.Kernel.Gen.frame m ρ

/-- So does the idealized kernel. -/
theorem frame_kernelIdeal : Cert.quiescent_KernelIdeal := fun m ρ _ => Cert.KernelIdeal.Gen.frame m ρ

/-- The same from arguments that meet the precondition. -/
theorem frame_kernelIdeal_finite : Cert.quiescent_KernelIdeal_pre_finite_args := fun m ρ _ => Cert.KernelIdeal.Gen.frame m ρ

/-- So does the idealized reference. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same from arguments that meet the precondition. -/
theorem frame_referenceIdeal_finite : Cert.quiescent_ReferenceIdeal_pre_finite_args := fun m ρ _ => frame_referenceIdeal m ρ trivial

/-- The one constant the idealized kernel names is the real number the table gives it. -/
theorem preserves_kernel : Cert.preserves_Kernel_KernelIdeal :=
  IdealRules.named_const.statement Cert.KernelIdeal.κ "scale_log2e" .f32 0x3E0293EE#32
    (((11863283 / 134217728) * (Real.log 2)⁻¹ : ℝ) : EReal) rfl

end Cert.Proof

end
-- ==== Proof.Reals.lean ====
/- The mathematics of the layer over the real numbers, every array a function of natural numbers, and the facts that carry a
   computation of finite extended reals over to it. -/
module

public import Idealize.ShloMosaic.Lib.Pointwise

@[expose] public section

noncomputable section

namespace Cert.Reals

open Idealize.ShloMosaic Finset

/-! ### The layer -/

/-- A projection: row `r` of `X` against row `i` of the weights, plus the bias. -/
def lin (X W : ℕ → ℕ → ℝ) (b : ℕ → ℝ) (r i : ℕ) : ℝ := (∑ d ∈ range 2048, X r d * W i d) + b i

/-- The reciprocal root mean square of a row, `ε` added under the root. -/
def rs (ε : ℝ) (Q : ℕ → ℕ → ℝ) (r : ℕ) : ℝ := (√((∑ i ∈ range 2048, Q r i * Q r i) * (1 / 2048) + ε))⁻¹

/-- A row over its root mean square, times a gain. -/
def rms (ε : ℝ) (Q : ℕ → ℕ → ℝ) (g : ℕ → ℝ) (r i : ℕ) : ℝ := Q r i * rs ε Q r * g i

/-- The score of query row `r` against key row `t` in head `h`. -/
def score (A K : ℕ → ℕ → ℝ) (h r t : ℕ) : ℝ := ∑ d ∈ range 128, A r (128 * h + d) * K t (128 * h + d)

/-- Column `i` of the attention's row `r`, where key `t` weighs `w h r t` in head `h`. -/
def attn (w : ℕ → ℕ → ℕ → ℝ) (V : ℕ → ℕ → ℝ) (r i : ℕ) : ℝ :=
  (∑ t ∈ range 2048, w (i / 128) r t * V t i) / ∑ t ∈ range 2048, w (i / 128) r t

/-- Weights in base two of a score. -/
def pow2 (A K : ℕ → ℕ → ℝ) (h r t : ℕ) : ℝ := (2 : ℝ) ^ score A K h r t

/-! ### Weighted means -/

/-- Scaling every weight of a row by one factor leaves its weighted mean. -/
theorem ratio_scale (n : ℕ) (w w' V : ℕ → ℝ) (c : ℝ) (hc : c ≠ 0) (h : ∀ t, w' t = c * w t) :
    (∑ t ∈ range n, w' t * V t) / ∑ t ∈ range n, w' t = (∑ t ∈ range n, w t * V t) / ∑ t ∈ range n, w t := by
  simp only [h, mul_assoc, ← mul_sum]
  exact mul_div_mul_left _ _ hc

/-- A positive weight for each of a positive number of terms: the total is not zero. -/
theorem total_ne (n : ℕ) (hn : 0 < n) (w : ℕ → ℝ) (hw : ∀ t, 0 < w t) : ∑ t ∈ range n, w t ≠ 0 :=
  (sum_pos (fun t _ => hw t) ⟨0, mem_range.2 hn⟩).ne'

/-- The weighted mean of values that all carry one summand is the mean of the rest plus that summand. -/
theorem mean_add (n : ℕ) (w V : ℕ → ℝ) (b : ℝ) (h : ∑ t ∈ range n, w t ≠ 0) :
    (∑ t ∈ range n, w t * (V t + b)) / ∑ t ∈ range n, w t = (∑ t ∈ range n, w t * V t) / (∑ t ∈ range n, w t) + b := by
  simp only [mul_add, sum_add_distrib, ← sum_mul]
  rw [add_div, mul_div_cancel_left₀ _ h]

/-- Normalised weights first or the quotient last: the same mean. -/
theorem mean_norm (n : ℕ) (w V : ℕ → ℝ) :
    ∑ t ∈ range n, w t * (1 / ∑ u ∈ range n, w u) * V t = (∑ t ∈ range n, w t * V t) / ∑ t ∈ range n, w t := by
  rw [div_eq_mul_one_div (∑ t ∈ range n, w t * V t), sum_mul]
  exact sum_congr rfl fun t _ => by ring

/-! ### Finite extended reals -/

/-- A finite sum of reals, read among the extended reals. -/
theorem coe_sum {ι : Type} (s : Finset ι) (f : ι → ℝ) : ((∑ k ∈ s, f k : ℝ) : EReal) = ∑ k ∈ s, (f k : EReal) :=
  map_sum (⟨⟨Real.toEReal, EReal.coe_zero⟩, EReal.coe_add⟩ : ℝ →+ EReal) f s

/-- A sum over the first `n` numbers of what is finite at each. -/
theorem sum_eq {n : ℕ} (f : Fin n → EReal) (g : ℕ → ℝ) (h : ∀ k, f k = ((g k.val : ℝ) : EReal)) :
    ∑ k, f k = ((∑ k ∈ range n, g k : ℝ) : EReal) := by
  rw [sum_range, coe_sum]
  exact sum_congr rfl fun k _ => h k

/-- A maximum over a nonempty range of finite values, from a start that is not `⊤`, is finite. -/
theorem fold_max_real {n : ℕ} (hn : 0 < n) (b : EReal) (hb : b ≠ ⊤) (f : Fin n → EReal) (hf : ∀ k, ∃ r : ℝ, f k = r) :
    ∃ μ : ℝ, univ.fold max b f = (μ : EReal) := by
  have h1 : univ.fold max b f ≠ ⊤ := by
    refine (Finset.fold_max_lt ⊤ |>.2 ⟨lt_top_iff_ne_top.2 hb, fun k _ => ?_⟩).ne
    obtain ⟨r, hr⟩ := hf k
    rw [hr]; exact EReal.coe_lt_top r
  have h2 : univ.fold max b f ≠ ⊥ := by
    obtain ⟨r, hr⟩ := hf ⟨0, hn⟩
    have : (r : EReal) ≤ univ.fold max b f := (Finset.le_fold_max _).2 (.inr ⟨⟨0, hn⟩, mem_univ _, hr.ge⟩)
    exact fun e => absurd (e ▸ this) (not_le.2 (EReal.bot_lt_coe r))
  exact ⟨_, (EReal.coe_toReal h1 h2).symm⟩

/-- The larger of two finite values is finite. -/
theorem max_real {a b : EReal} (ha : ∃ r : ℝ, a = r) (hb : ∃ r : ℝ, b = r) : ∃ r : ℝ, max a b = r := by
  obtain ⟨r, rfl⟩ := ha
  obtain ⟨s, rfl⟩ := hb
  rcases le_total (r : EReal) (s : EReal) with h | h
  · exact ⟨s, max_eq_right h⟩
  · exact ⟨r, max_eq_left h⟩

/-- The base-two exponential of a difference of finite values. -/
theorem exp2_sub (a b : ℝ) :
    FloatOps.exp2 (F := Ideal) (φ := .f32) ((a : EReal) - (b : EReal)) = (((2 : ℝ) ^ (a - b) : ℝ) : EReal) := by
  rw [← EReal.coe_sub]; rfl

/-- The exponential of a difference of finite values. -/
theorem exp_sub (a b : ℝ) : Ideal.exp ((a : EReal) - (b : EReal)) = ((Real.exp (a - b) : ℝ) : EReal) := by
  rw [← EReal.coe_sub]; rfl

/-- The reciprocal root of a positive value. -/
theorem rsqrt_pos (a : ℝ) (h : 0 < a) : Ideal.rsqrt (a : EReal) = (((√a)⁻¹ : ℝ) : EReal) := by
  show (if a < 0 then (⊥ : EReal) else if a = 0 then ⊤ else (((√a)⁻¹ : ℝ) : EReal)) = _
  rw [if_neg (not_lt.2 h.le), if_neg h.ne']

/-- The quotient of finite values by a value that is not zero. -/
theorem div_real (a b : ℝ) (h : b ≠ 0) : Ideal.div (a : EReal) (b : EReal) = ((a / b : ℝ) : EReal) := by
  rw [Ideal.div_coe h, ← EReal.coe_mul, mul_one_div]

/-! ### The constants of the programs -/

/-- The start of the running maximum is a finite number. -/
theorem lowest_eq : ∃ r : ℝ, Ideal.ofBits .f32 0xF149F2CA#32 = (r : EReal) := by
  simp [Ideal.ofBits, Ideal.ieee, -EReal.coe_mul]
  exact ⟨_, rfl⟩

/-- The pattern of minus infinity. -/
theorem neg_inf : Ideal.ofBits .f32 0xFF800000#32 = ⊥ := by simp [Ideal.ofBits, Ideal.ieee]

/-- The pattern of plus infinity. -/
theorem pos_inf : Ideal.ofBits .f32 0x7F800000#32 = ⊤ := by simp [Ideal.ofBits, Ideal.ieee]

/-- The length of a row. -/
theorem len_eq : Ideal.ofBits .f32 0x45000000#32 = ((2048 : ℝ) : EReal) := by
  simp [Ideal.ofBits, Ideal.ieee, -EReal.coe_mul]; norm_num

/-- The number added under the root. -/
def eps : ℝ := 10995116 / 1099511627776

/-- Its pattern. -/
theorem eps_eq : Ideal.ofBits .f32 0x3727C5AC#32 = ((eps : ℝ) : EReal) := by
  simp [Ideal.ofBits, Ideal.ieee, eps, -EReal.coe_mul]; norm_num

/-- It is positive. -/
theorem eps_pos : 0 < eps := by unfold eps; norm_num

/-- The scale of the scores. -/
def sc : ℝ := 11863283 / 134217728

/-- Its pattern. -/
theorem sc_eq : Ideal.ofBits .f32 0x3DB504F3#32 = ((sc : ℝ) : EReal) := by
  simp [Ideal.ofBits, Ideal.ieee, sc, -EReal.coe_mul]; norm_num

/-- What stands under the root is positive. -/
theorem under_pos (Q : ℕ → ℕ → ℝ) (r : ℕ) : 0 < (∑ i ∈ range 2048, Q r i * Q r i) * (1 / 2048) + eps :=
  add_pos_of_nonneg_of_pos (mul_nonneg (sum_nonneg fun _ _ => mul_self_nonneg _) (by norm_num)) eps_pos

end Cert.Reals

end
-- ==== Proof.QkvValue.lean ====
/- The projection body over extended reals: on finite inputs its block holds the normalised queries with the folded scale, the
   normalised keys, and the values without their bias, side by side. -/
module

public import proofs.«01_k».proof.Proof.Gen.KernelIdeal.Frame
public import proofs.«01_k».proof.Proof.Reals

@[expose] public section

set_option maxRecDepth 16384

noncomputable section

namespace Cert.KernelIdeal.Qkv

open Idealize.ShloMosaic Cert.KernelIdeal Cert.KernelIdeal.Gen Cert.Reals Finset

/-- The named constant: the scale over the logarithm of two. -/
theorem named_eq : Named.named (F := Ideal) κ "scale_log2e" (φ := .f32) 0x3E0293EE#32 = ((sc * (Real.log 2)⁻¹ : ℝ) : EReal) :=
  IdealRules.named_const.ideal_named_scalar _ _ _ _ rfl

/-- A scaled, normalised query. -/
def qn (Q : ℕ → ℕ → ℝ) (g : ℕ → ℝ) (r i : ℕ) : ℝ := Q r i * (rs eps Q r * (sc * (Real.log 2)⁻¹)) * g i

/-- A row's three parts: queries, keys, values. -/
def row (Q K V : ℕ → ℕ → ℝ) (gq gk : ℕ → ℝ) (r c : ℕ) : ℝ :=
  if c < 2048 then qn Q gq r c else if c - 2048 < 2048 then rms eps K gk r (c - 2048) else V r (c - 2048 - 2048)

section Body

variable (x0 : Vec Ideal S256x2048 .f32) (x1 x2 x3 : Vec Ideal S2048x2048 .bf16) (x4 x5 x6 x7 : Vec Ideal S1x2048 .f32)
variable (X Wq Wk Wv : ℕ → ℕ → ℝ) (bq bk gq gk : ℕ → ℝ)
variable (h0 : ∀ i, x0 i = ((X (i 0).val (i 1).val : ℝ) : EReal)) (h1 : ∀ i, x1 i = ((Wq (i 0).val (i 1).val : ℝ) : EReal))
variable (h2 : ∀ i, x2 i = ((Wk (i 0).val (i 1).val : ℝ) : EReal)) (h3 : ∀ i, x3 i = ((Wv (i 0).val (i 1).val : ℝ) : EReal))
variable (h4 : ∀ i, x4 i = ((bq (i 1).val : ℝ) : EReal)) (h5 : ∀ i, x5 i = ((bk (i 1).val : ℝ) : EReal))
variable (h6 : ∀ i, x6 i = ((gq (i 1).val : ℝ) : EReal)) (h7 : ∀ i, x7 i = ((gk (i 1).val : ℝ) : EReal))

include h0 h2 h5 in
/-- The keys before their normalisation. -/
theorem pay3_apply (r : Fin 256) (i : Fin 2048) :
    k0_pay3 x0 x2 x5 (ix2 r i) = ((lin X Wk bk r.val i.val : ℝ) : EReal) := by
  pointwise [k0_pay3, k0_pay2]
  rw [sum_eq _ (fun d => X r.val d * Wk i.val d) (fun d => by rw [h0, h2, ← EReal.coe_mul]; rfl), h5, ← EReal.coe_add]
  rfl

include h0 h3 in
/-- The values. -/
theorem pay4_apply (r : Fin 256) (i : Fin 2048) :
    k0_pay4 x0 x3 (ix2 r i) = ((lin X Wv (fun _ => 0) r.val i.val : ℝ) : EReal) := by
  pointwise [k0_pay4, k0_pay2]
  rw [sum_eq _ (fun d => X r.val d * Wv i.val d) (fun d => by rw [h0, h3, ← EReal.coe_mul]; rfl), lin, add_zero]

/-- The projection inside the queries' payload. -/
theorem lin_eq (r : Fin 256) (i : Fin 2048) (x : Vec Ideal S2048x2048 .bf16) (b : Vec Ideal S1x2048 .f32) (W : ℕ → ℕ → ℝ)
    (c : ℕ → ℝ) (h0 : ∀ i, x0 i = ((X (i 0).val (i 1).val : ℝ) : EReal)) (hx : ∀ i, x i = ((W (i 0).val (i 1).val : ℝ) : EReal))
    (hb : ∀ i, b i = ((c (i 1).val : ℝ) : EReal)) :
    ∑ d : Fin 2048, x0 (ix2 r d) * x (ix2 i d) + b (ix2 0 i) = ((lin X W c r.val i.val : ℝ) : EReal) := by
  rw [sum_eq _ (fun d => X r.val d * W i.val d) (fun d => by rw [h0, hx, ← EReal.coe_mul]; rfl), hb, ← EReal.coe_add]
  rfl

/-- The reciprocal root mean square of a row of finite values. -/
theorem rs_eq (f : Fin 2048 → EReal) (Q : ℕ → ℕ → ℝ) (r : ℕ) (hf : ∀ i, f i = ((Q r i.val * Q r i.val : ℝ) : EReal)) :
    Ideal.rsqrt (Ideal.div (∑ i, f i) (Ideal.ofBits .f32 0x45000000#32) + Ideal.ofBits .f32 0x3727C5AC#32)
      = ((rs eps Q r : ℝ) : EReal) := by
  rw [sum_eq _ (fun i => Q r i * Q r i) hf, len_eq, eps_eq, Ideal.div_coe (by norm_num), ← EReal.coe_mul, ← EReal.coe_add]
  exact rsqrt_pos _ (under_pos Q r)

include h0 h1 h4 h6 in
/-- The queries. -/
theorem pay5_apply (r : Fin 256) (i : Fin 2048) :
    k0_pay5 x0 x1 x4 x6 (ix2 r i) = ((qn (lin X Wq bq) gq r.val i.val : ℝ) : EReal) := by
  pointwise [k0_pay5, k0_pay2]
  simp only [lin_eq x0 X r _ x1 x4 Wq bq h0 h1 h4, h6, named_eq]
  rw [rs_eq _ (lin X Wq bq) r.val fun i => (EReal.coe_mul _ _).symm]
  simp only [← EReal.coe_mul]
  rfl

include h0 h1 h2 h3 h4 h5 h6 h7 in
/-- The whole block. -/
theorem pay1_apply (r : Fin 256) (c : Fin 6144) :
    k0_pay1 (k0_pay3 x0 x2 x5) (k0_pay4 x0 x3) (k0_pay5 x0 x1 x4 x6) (k0_pay6 x0 x2 x5) x7 (ix2 r c)
      = ((row (lin X Wq bq) (lin X Wk bk) (lin X Wv fun _ => 0) gq gk r.val c.val : ℝ) : EReal) := by
  pointwise [k0_pay1, k0_pay6]
  simp only [pay3_apply x0 x2 x5 X Wk bk h0 h2 h5, pay4_apply x0 x3 X Wv h0 h3, pay5_apply x0 x1 x4 x6 X Wq bq gq h0 h1 h4 h6, h7]
  rw [rs_eq _ (lin X Wk bk) r.val fun i => (EReal.coe_mul _ _).symm]
  unfold row
  split
  · rfl
  · split
    · simp only [← EReal.coe_mul]; rfl
    · rfl

end Body

end Cert.KernelIdeal.Qkv

end
-- ==== Proof.Bridge.lean ====
/- The two sides over the reals: the kernel's layer, its scale folded into the queries in base two and the values' bias into the
   output's, is the reference's. -/
module

public import proofs.«01_k».proof.Proof.QkvValue

@[expose] public section

noncomputable section

namespace Cert.Bridge

open Cert.Reals Cert.KernelIdeal Finset

/-- The row of a batch inside the rows of all batches. -/
theorem at_row (X : ℕ → ℕ → ℕ → ℝ) (b s : ℕ) (hs : s < 2048) : X ((b * 2048 + s) / 2048) ((b * 2048 + s) % 2048) = X b s := by
  rw [show (b * 2048 + s) / 2048 = b by omega, show (b * 2048 + s) % 2048 = s by omega]

/-- A projection reads a row only through that row of tokens. -/
theorem lin_congr (X X' W : ℕ → ℕ → ℝ) (c : ℕ → ℝ) (R r : ℕ) (h : X R = X' r) : lin X W c R = lin X' W c r := by
  funext i
  unfold lin
  rw [h]

/-- The kernel's three column blocks, read by rows: they depend on the row of each part only. -/
theorem row_congr (Q K V Q' K' V' : ℕ → ℕ → ℝ) (gq gk : ℕ → ℝ) (R r : ℕ) (hQ : Q R = Q' r) (hK : K R = K' r) (hV : V R = V' r) :
    Qkv.row Q K V gq gk R = Qkv.row Q' K' V' gq gk r := by
  funext c
  unfold Qkv.row Qkv.qn rms rs
  rw [hQ, hK, hV]

section Row

variable (Q K V : ℕ → ℕ → ℝ) (gq gk : ℕ → ℝ)

/-- The first block holds the queries. -/
theorem row_q (r d : ℕ) (hd : d < 2048) : Qkv.row Q K V gq gk r d = Qkv.qn Q gq r d := if_pos hd

/-- The second the keys. -/
theorem row_k (r d : ℕ) (hd : d < 2048) : Qkv.row Q K V gq gk r (2048 + d) = rms eps K gk r d := by
  unfold Qkv.row
  rw [if_neg (by omega), if_pos (by omega), Nat.add_sub_cancel_left]

/-- The third the values. -/
theorem row_v (r d : ℕ) : Qkv.row Q K V gq gk r (4096 + d) = V r d := by
  unfold Qkv.row
  rw [if_neg (by omega), if_neg (by omega), show 4096 + d - 2048 - 2048 = d by omega]

/-- Two to the power of the kernel's score is the exponential of the reference's scaled score. -/
theorem weight_eq (h r t : ℕ) (hh : h < 16) :
    pow2 (Qkv.row Q K V gq gk) (fun t d => Qkv.row Q K V gq gk t (2048 + d)) h r t
      = Real.exp (score (rms eps Q gq) (rms eps K gk) h r t * sc) := by
  have e : score (Qkv.row Q K V gq gk) (fun t d => Qkv.row Q K V gq gk t (2048 + d)) h r t
      = score (rms eps Q gq) (rms eps K gk) h r t * (sc * (Real.log 2)⁻¹) := by
    unfold score
    rw [sum_mul]
    refine sum_congr rfl fun d hd => ?_
    have hd' := mem_range.1 hd
    beta_reduce
    rw [row_q _ _ _ _ _ _ _ (by omega), row_k _ _ _ _ _ _ _ (by omega)]
    unfold Qkv.qn rms
    ring
  have hl : Real.log 2 ≠ 0 := (Real.log_pos one_lt_two).ne'
  rw [pow2, e, Real.rpow_def_of_pos two_pos]
  congr 1
  field_simp

end Row

/-- The layer: what the kernel leaves before its bias, plus the values' bias through the output projection, is what the reference
    leaves before its bias. -/
theorem layer_eq (X : ℕ → ℕ → ℕ → ℝ) (Wq Wk Wv : ℕ → ℕ → ℝ) (bq bk bv gq gk w : ℕ → ℝ) (Y : ℕ → ℕ → ℕ → ℝ)
    (hY : ∀ b s, Y b s = Qkv.row (lin (fun R => X (R / 2048) (R % 2048)) Wq bq) (lin (fun R => X (R / 2048) (R % 2048)) Wk bk)
      (lin (fun R => X (R / 2048) (R % 2048)) Wv fun _ => 0) gq gk (b * 2048 + s)) (b s : ℕ) (hs : s < 2048) :
    (∑ k ∈ range 2048, attn (pow2 (Y b) fun t d => Y b t (2048 + d)) (fun t d => Y b t (4096 + d)) s k * w k) + ∑ k ∈ range 2048, bv k * w k
      = ∑ k ∈ range 2048, attn (fun h r t => Real.exp (score (rms eps (lin (X b) Wq bq) gq) (rms eps (lin (X b) Wk bk) gk) h r t * sc))
          (lin (X b) Wv bv) s k * w k := by
  have hY' : ∀ s < 2048, Y b s = Qkv.row (lin (X b) Wq bq) (lin (X b) Wk bk) (lin (X b) Wv fun _ => 0) gq gk s := fun s hs => by
    rw [hY]
    have h := at_row X b s hs
    exact row_congr _ _ _ _ _ _ gq gk _ _ (lin_congr _ _ _ _ _ _ h) (lin_congr _ _ _ _ _ _ h) (lin_congr _ _ _ _ _ _ h)
  rw [← sum_add_distrib]
  refine sum_congr rfl fun k hk => ?_
  have hk' : k / 128 < 16 := by have := mem_range.1 hk; omega
  rw [← add_mul]
  congr 1
  have hw : ∀ t ∈ range 2048, pow2 (Y b) (fun t d => Y b t (2048 + d)) (k / 128) s t
      = Real.exp (score (rms eps (lin (X b) Wq bq) gq) (rms eps (lin (X b) Wk bk) gk) (k / 128) s t * sc) := fun t ht => by
    rw [← weight_eq _ _ (lin (X b) Wv fun _ => 0) gq gk _ _ _ hk']
    unfold pow2 score
    beta_reduce
    rw [hY' s hs, hY' t (mem_range.1 ht)]
  unfold attn
  have hv : ∀ t ∈ range 2048, pow2 (Y b) (fun t d => Y b t (2048 + d)) (k / 128) s t * Y b t (4096 + k)
      = Real.exp (score (rms eps (lin (X b) Wq bq) gq) (rms eps (lin (X b) Wk bk) gk) (k / 128) s t * sc) * lin (X b) Wv (fun _ => 0) t k :=
    fun t ht => by rw [hw t ht, hY' t (mem_range.1 ht), row_v]
  rw [sum_congr rfl hw, sum_congr rfl hv]
  rw [← mean_add 2048 _ _ _ (total_ne 2048 (by norm_num) _ fun t => Real.exp_pos _)]
  simp only [lin, add_zero]

end Cert.Bridge

end
-- ==== Proof.Finite.lean ====
/- The precondition: arguments that pass it are arrays of real numbers. -/
module

public import proofs.«01_k».proof.Proof.Gen.Pre_finite_args
public import proofs.«01_k».proof.Proof.Reals
public import Idealize.ShloMosaic.Lib.ReduceAll
public import Idealize.ShloMosaic.Lib.Affine

@[expose] public section

noncomputable section

namespace Cert.Finite

open Idealize.ShloMosaic Cert.Pre_finite_args Cert.Reals

/-- Every element is a real number. -/
def AllReal {s : Shape} (x : FVec Ideal s .f32) : Prop := ∀ i, ∃ r : ℝ, x i = (r : EReal)

/-- A value whose magnitude is below plus infinity is a real number. -/
theorem real_of_lt (a : EReal) (h : max a (-a) < ⊤) : ∃ r : ℝ, a = r := by
  have h1 : a ≠ ⊤ := fun e => by rw [e] at h; exact absurd h (not_lt.2 (le_max_left _ _))
  have h2 : a ≠ ⊥ := fun e => by rw [e] at h; exact absurd h (not_lt.2 (le_max_right _ _))
  exact ⟨_, (EReal.coe_toReal h1 h2).symm⟩

/-- One argument's test: its conjunction over every element is true only of an array of real numbers. -/
theorem allReal_of_test {s : Shape} {axes : List (Fin s.rank)} (x : FVec Ideal s .f32) (b : S_.BroadcastsInDim s (![] : Fin 0 → Fin s.rank))
    (h : s.ReducesTo axes S_) (hu : 0 < S_.numel) (j : S_.Idx)
    (e : Host.reduce IntOp.andi (cmpf .olt (Host.absf x) (broadcastInDim s ![] b (constant (F := Ideal) S_ .f32 0x7F800000#32)))
      (constantI S_ 1 1#1) h hu j = 1#1) : AllReal x := fun i => by
  haveI : Subsingleton S_.Idx := ⟨fun a b => funext fun k => k.elim0⟩
  have t : Ideal.cmp .olt (max (x i) (-x i)) (Ideal.ofBits .f32 0x7F800000#32) = 1#1 := Host.reduce_andi_all _ _ _ _ j e i
  rw [pos_inf] at t
  exact real_of_lt _ ((Ideal.cmp_olt_eq_one _ _).1 t)

/-- The precondition gives every argument but the last as real numbers. -/
theorem of_pre (x0 : FVec Ideal S2x2048x2048 .f32) (x1 x3 x5 x9 : FVec Ideal S2048x2048 .f32) (x2 x4 x6 x7 x8 x10 : FVec Ideal S2048 .f32)
    (h : fn (F := Ideal) x0 x1 x2 x3 x4 x5 x6 x7 x8 x9 x10 = fun _ => 1#1) :
    AllReal x0 ∧ AllReal x1 ∧ AllReal x2 ∧ AllReal x3 ∧ AllReal x4 ∧ AllReal x5 ∧ AllReal x6 ∧ AllReal x7 ∧ AllReal x8 ∧ AllReal x9 := by
  have h' := congrFun h (fun k => k.elim0)
  unfold fn fn_part1 fn_part2 at h'
  obtain ⟨h', t9⟩ := IntOp.andi_eq_one.1 h'
  obtain ⟨h', t8⟩ := IntOp.andi_eq_one.1 h'
  obtain ⟨h', t7⟩ := IntOp.andi_eq_one.1 h'
  obtain ⟨h', t6⟩ := IntOp.andi_eq_one.1 h'
  obtain ⟨h', t5⟩ := IntOp.andi_eq_one.1 h'
  obtain ⟨h', t4⟩ := IntOp.andi_eq_one.1 h'
  obtain ⟨h', t3⟩ := IntOp.andi_eq_one.1 h'
  obtain ⟨h', t2⟩ := IntOp.andi_eq_one.1 h'
  obtain ⟨t0, t1⟩ := IntOp.andi_eq_one.1 h'
  exact ⟨allReal_of_test x0 _ _ _ _ t0, allReal_of_test x1 _ _ _ _ t1, allReal_of_test x2 _ _ _ _ t2, allReal_of_test x3 _ _ _ _ t3,
    allReal_of_test x4 _ _ _ _ t4, allReal_of_test x5 _ _ _ _ t5, allReal_of_test x6 _ _ _ _ t6, allReal_of_test x7 _ _ _ _ t7,
    allReal_of_test x8 _ _ _ _ t8, allReal_of_test x9 _ _ _ _ t9⟩

/-- A vector, read by number. -/
theorem real1 {n : ℕ} (x : FVec Ideal ⟨1, ![n]⟩ .f32) (h : AllReal x) : ∃ f : ℕ → ℝ, ∀ i, x i = ((f (i 0).val : ℝ) : EReal) := by
  choose r hr using h
  refine ⟨fun a => if h : a < n then r (ix1 ⟨a, h⟩) else 0, fun i => ?_⟩
  refine (hr i).trans (congrArg Real.toEReal ((congrArg r (eq_ix1 i)).trans ?_))
  beta_reduce
  rw [dif_pos (show (i 0).val < n from (i 0).2)]
  rfl

/-- A matrix, read by row and column. -/
theorem real2 {n k : ℕ} (x : FVec Ideal ⟨2, ![n, k]⟩ .f32) (h : AllReal x) :
    ∃ f : ℕ → ℕ → ℝ, ∀ i, x i = ((f (i 0).val (i 1).val : ℝ) : EReal) := by
  choose r hr using h
  refine ⟨fun a b => if h : a < n ∧ b < k then r (ix2 ⟨a, h.1⟩ ⟨b, h.2⟩) else 0, fun i => ?_⟩
  refine (hr i).trans (congrArg Real.toEReal ((congrArg r (eq_ix2 i)).trans ?_))
  beta_reduce
  rw [dif_pos (show (i 0).val < n ∧ (i 1).val < k from ⟨(i 0).2, (i 1).2⟩)]
  rfl

/-- A stack of matrices, read by its three coordinates. -/
theorem real3 {n k l : ℕ} (x : FVec Ideal ⟨3, ![n, k, l]⟩ .f32) (h : AllReal x) :
    ∃ f : ℕ → ℕ → ℕ → ℝ, ∀ i, x i = ((f (i 0).val (i 1).val (i 2).val : ℝ) : EReal) := by
  choose r hr using h
  refine ⟨fun a b c => if h : a < n ∧ b < k ∧ c < l then r (ix3 ⟨a, h.1⟩ ⟨b, h.2.1⟩ ⟨c, h.2.2⟩) else 0, fun i => ?_⟩
  refine (hr i).trans (congrArg Real.toEReal ((congrArg r (eq_ix3 i)).trans ?_))
  beta_reduce
  rw [dif_pos (show (i 0).val < n ∧ (i 1).val < k ∧ (i 2).val < l from ⟨(i 0).2, (i 1).2, (i 2).2⟩)]
  rfl

/-- Any vector, read by number. -/
theorem any1 {n : ℕ} (x : FVec Ideal ⟨1, ![n]⟩ .f32) : ∃ f : ℕ → EReal, ∀ i, x i = f (i 0).val := by
  refine ⟨fun a => if h : a < n then x (ix1 ⟨a, h⟩) else 0, fun i => ?_⟩
  refine (congrArg x (eq_ix1 i)).trans ?_
  beta_reduce
  rw [dif_pos (show (i 0).val < n from (i 0).2)]
  rfl

end Cert.Finite

end
-- ==== Proof.KernelRun.lean ====
/- The idealized kernel's run: it ends with every buffer of the launch holding what the program's items, in their order, leave there. -/
module

public import proofs.«01_k».proof.Proof.Gen.KernelIdeal.Frame

@[expose] public section

set_option maxRecDepth 16384

noncomputable section

namespace Cert.KernelIdeal.Result

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends, and ends with each unscoped buffer at the last boundary's contents. -/
theorem run : θ_run defs (onTc (τ := τ) (main (F := F))) ⟨m, fun _ => 0, ρ⟩ (fun r => ∀ c : Dev nD, ∀ b ∈ Pipeline.ucRefs τ sig,
      r.2.mem ((c : Thread nD τ).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W4 m ρ c b)
    (hfin := fun c s' => by
      iintro ⟨⟨Hh, -⟩, HSI⟩
      unfold StableHlo.held
      imodintro
      iapply (pointsTo_read_all (Pipeline.ucRefs τ sig) (fun b => ((c : Thread nD τ).1, b)) (W4 m ρ c) s')
      isplitl [Hh] <;> iassumption)
    (hQ := fun _ h _ => h)

end Cert.KernelIdeal.Result

end
-- ==== Proof.Region0.lean ====
/- The projection region over extended reals: from finite arrays at its entry, the array it leaves holds in each row the normalised
   queries, the normalised keys and the values of that row of tokens. -/
module

public import proofs.«01_k».proof.Proof.QkvValue
public import Idealize.ShloMosaic.Lib.Pipeline.ValueKit

@[expose] public section

set_option maxRecDepth 16384

noncomputable section

namespace Cert.KernelIdeal.Region0

open Idealize.ShloMosaic Idealize.ShloMosaic.TcCoe Cert.KernelIdeal Cert.KernelIdeal.Gen Cert.Reals Finset

variable (V : (c : Dev nD) → (b : Ref sig .tc) → Buf (Elt Ideal) ((c : Thread nD τ).loc b)) (c : Dev nD)
variable (X Wq Wk Wv : ℕ → ℕ → ℝ) (bq bk gq gk : ℕ → ℝ)
variable (h0 : ∀ i : S4096x2048.Idx, V c main_v0 i = ((X (i 0).val (i 1).val : ℝ) : EReal))
variable (h1 : ∀ i : S2048x2048.Idx, V c main_v1 i = ((Wq (i 0).val (i 1).val : ℝ) : EReal))
variable (h2 : ∀ i : S2048x2048.Idx, V c main_v2 i = ((Wk (i 0).val (i 1).val : ℝ) : EReal))
variable (h3 : ∀ i : S2048x2048.Idx, V c main_v3 i = ((Wv (i 0).val (i 1).val : ℝ) : EReal))
variable (h4 : ∀ i : S1x2048.Idx, V c main_v5 i = ((bq (i 1).val : ℝ) : EReal))
variable (h5 : ∀ i : S1x2048.Idx, V c main_v6 i = ((bk (i 1).val : ℝ) : EReal))
variable (h6 : ∀ i : S1x2048.Idx, V c main_v7 i = ((gq (i 1).val : ℝ) : EReal))
variable (h7 : ∀ i : S1x2048.Idx, V c main_v8 i = ((gk (i 1).val : ℝ) : EReal))

/-- Where the blocks lie: the tokens' and the result's at row block `t`, the others at the origin. -/
theorem index_eq : ∀ t : Fin cfg0.grid.N,
    (win0_0.index t 0 = t.val ∧ win0_0.index t 1 = 0) ∧ (win0_8.index t 0 = t.val ∧ win0_8.index t 1 = 0)
    ∧ (win0_1.index t 0 = 0 ∧ win0_1.index t 1 = 0) ∧ (win0_2.index t 0 = 0 ∧ win0_2.index t 1 = 0)
    ∧ (win0_3.index t 0 = 0 ∧ win0_3.index t 1 = 0) ∧ win0_4.index t 1 = 0 ∧ win0_5.index t 1 = 0
    ∧ win0_6.index t 1 = 0 ∧ win0_7.index t 1 = 0 := by decide +kernel

include h0 h1 h2 h3 h4 h5 h6 h7 in
/-- The array the region leaves. -/
theorem arr_eq : (dat0 V c).arrAt 8 cfg0.N = fun i : S4096x6144.Idx =>
    ((Qkv.row (lin X Wq bq) (lin X Wk bk) (lin X Wv fun _ => 0) gq gk (i 0).val (i 1).val : ℝ) : EReal) := by
  refine (dat0 V c).arrAt_eq_of_covers 8 _ (by decide +kernel) fun t hf y => ?_
  blk_simp
  rw [after0_8]
  frame_out
  idx_vars y
  obtain ⟨e0, e8, e1, e2, e3, e4, e5, e6, e7⟩ := index_eq t
  refine (Qkv.pay1_apply _ _ _ _ _ _ _ _ (fun r d => X (256 * t.val + r) d) Wq Wk Wv bq bk gq gk ?_ ?_ ?_ ?_ ?_ ?_ ?_ ?_ y0 y1).trans ?_
  · exact fun i => (h0 (((cfg0.win 0).blk t).view.emb i)).trans (by blk_simp [e0.1, e0.2, Nat.mul_comm t.val 256, Nat.zero_mul, Nat.zero_add])
  · exact fun i => (h1 (((cfg0.win 1).blk t).view.emb i)).trans (by blk_simp [e1.1, e1.2, Nat.zero_mul, Nat.zero_add])
  · exact fun i => (h2 (((cfg0.win 2).blk t).view.emb i)).trans (by blk_simp [e2.1, e2.2, Nat.zero_mul, Nat.zero_add])
  · exact fun i => (h3 (((cfg0.win 3).blk t).view.emb i)).trans (by blk_simp [e3.1, e3.2, Nat.zero_mul, Nat.zero_add])
  · exact fun i => (h4 (((cfg0.win 4).blk t).view.emb i)).trans (by blk_simp [e4, Nat.zero_mul, Nat.zero_add])
  · exact fun i => (h5 (((cfg0.win 5).blk t).view.emb i)).trans (by blk_simp [e5, Nat.zero_mul, Nat.zero_add])
  · exact fun i => (h6 (((cfg0.win 6).blk t).view.emb i)).trans (by blk_simp [e6, Nat.zero_mul, Nat.zero_add])
  · exact fun i => (h7 (((cfg0.win 7).blk t).view.emb i)).trans (by blk_simp [e7, Nat.zero_mul, Nat.zero_add])
  · rw [e8.1, e8.2, Nat.zero_mul, Nat.zero_add, Nat.mul_comm]; rfl

end Cert.KernelIdeal.Region0

end
-- ==== Proof.Attn.lean ====
/- The attention body written as its two loops: over the heads, and for each head over the eight blocks of keys. The printed
   body is this text with both loops unrolled (`out_eq`). -/
module

public import proofs.«01_k».proof.Proof.Gen.KernelIdeal.Frame

@[expose] public section

set_option maxRecDepth 16384

noncomputable section

namespace Cert.KernelIdeal.Attn

open Idealize.ShloMosaic Cert.KernelIdeal Cert.KernelIdeal.Gen

variable {F : FTy → Type} [FloatOps F] [Named F]

/-- A head's columns of the query block. -/
theorem slices_q (h : ℕ) (hh : h < 16) : S512x2048.Slices ![0, 128 * h] S512x128 :=
  ⟨rfl, fun a => by fin_cases a <;> simp <;> omega⟩

/-- A head's columns of the value block. -/
theorem slices_v (h : ℕ) (hh : h < 16) : S2048x2048.Slices ![0, 128 * h] S2048x128 :=
  ⟨rfl, fun a => by fin_cases a <;> simp <;> omega⟩

/-- One block of keys, a head's columns. -/
theorem slices_k (j h : ℕ) (hj : j < 8) (hh : h < 16) : S2048x2048.Slices ![256 * j, 128 * h] S256x128 :=
  ⟨rfl, fun a => by fin_cases a <;> simp <;> omega⟩

/-- One block of rows of the extended values. -/
theorem slices_x (j : ℕ) (hj : j < 8) : S2048x256.Slices ![256 * j, 0] S256x256 :=
  ⟨rfl, fun a => by fin_cases a <;> simp <;> omega⟩

/-- The head's queries. -/
def q (x0 : Vec F S1x512x2048 .bf16) (h : ℕ) (hh : h < 16) : FVec F S512x128 .bf16 :=
  extractStridedSlice S512x128 ![0, 128 * h] (shapeCast S512x2048 x0 shapeCasts_S1x512x2048_S512x2048) (slices_q h hh)

/-- The head's values, followed by as many columns of ones. -/
def vx (x2 : Vec F S1x2048x2048 .bf16) (h : ℕ) (hh : h < 16) : FVec F S2048x256 .bf16 :=
  concatenate S2048x256 1 [⟨S2048x128, extractStridedSlice S2048x128 ![0, 128 * h]
      (shapeCast S2048x2048 x2 shapeCasts_S1x2048x2048_S2048x2048) (slices_v h hh)⟩,
    ⟨S2048x128, broadcast S2048x128 (Scalar.ofBits .bf16 0x3F80#16)⟩] concatenates_S2048x128_S2048x128_S2048x256_d1

/-- The head's scores against the `j`-th block of keys. -/
def s (x0 : Vec F S1x512x2048 .bf16) (x1 : Vec F S1x2048x2048 .bf16) (h : ℕ) (hh : h < 16) (j : ℕ) (hj : j < 8) :
    FVec F S512x256 .f32 :=
  matmul dot_S512x128_S256x128_S512x256_1_1_0_0_n_n none (q x0 h hh)
    (extractStridedSlice S256x128 ![256 * j, 128 * h] (shapeCast S2048x2048 x1 shapeCasts_S1x2048x2048_S2048x2048)
      (slices_k j h hj hh)) (constant S512x256 .f32 0x00000000#32)

/-- The running row maximum after `j` blocks of keys. -/
def m (x0 : Vec F S1x512x2048 .bf16) (x1 : Vec F S1x2048x2048 .bf16) (h : ℕ) (hh : h < 16) :
    (j : ℕ) → j ≤ 8 → FVec F S512x1 .f32
  | 0, _ => broadcast S512x1 (Scalar.ofBits .f32 0xF149F2CA#32)
  | j + 1, hj => maximumf (m x0 x1 h hh j (Nat.le_of_succ_le hj))
      (shapeCast S512x1 (multiReduction .maximumf [1] S512 (s x0 x1 h hh j hj) 0xFF800000#32 reduces_S512x256_S512
        (.inl rfl) rfl) shapeCasts_S512_S512x1)

/-- The running weighted sums after `j` blocks of keys: of the values in the first columns, of ones in the last. -/
def acc (x0 : Vec F S1x512x2048 .bf16) (x1 : Vec F S1x2048x2048 .bf16) (x2 : Vec F S1x2048x2048 .bf16) (h : ℕ) (hh : h < 16) :
    (j : ℕ) → j ≤ 8 → FVec F S512x256 .f32
  | 0, _ => broadcast S512x256 (Scalar.ofBits .f32 0x00000000#32)
  | j + 1, hj => addf
      (mulf (acc x0 x1 x2 h hh j (Nat.le_of_succ_le hj))
        (broadcastTo S512x256 (exp2 (subf (m x0 x1 h hh j (Nat.le_of_succ_le hj)) (m x0 x1 h hh (j + 1) hj)))
          broadcasts_S512x1_S512x256))
      (matmul dot_S512x256_S256x256_S512x256_1_0_0_1_n_n none
        (truncf .bf16 (exp2 (subf (s x0 x1 h hh j hj)
          (broadcastTo S512x256 (m x0 x1 h hh (j + 1) hj) broadcasts_S512x1_S512x256))) bitsLt_bf16_f32)
        (extractStridedSlice S256x256 ![256 * j, 0] (vx x2 h hh) (slices_x j hj)) (constant S512x256 .f32 0x00000000#32))

/-- The head's output: the sums of the values over the sums of ones. -/
def head (x0 : Vec F S1x512x2048 .bf16) (x1 : Vec F S1x2048x2048 .bf16) (x2 : Vec F S1x2048x2048 .bf16) (h : Fin 16) :
    FVec F S512x128 .bf16 :=
  truncf .bf16 (divf
    (extractStridedSlice S512x128 ![0, 0] (acc x0 x1 x2 h.1 h.2 8 (Nat.le_refl 8)) slices_S512x256_o0_0_S512x128)
    (extractStridedSlice S512x128 ![0, 128] (acc x0 x1 x2 h.1 h.2 8 (Nat.le_refl 8)) slices_S512x256_o0_128_S512x128))
    bitsLt_bf16_f32

/-- All heads side by side. -/
def heads (x0 : Vec F S1x512x2048 .bf16) (x1 : Vec F S1x2048x2048 .bf16) (x2 : Vec F S1x2048x2048 .bf16) :
    FVec F S512x2048 .bf16 :=
  concatenate S512x2048 1 (List.ofFn fun h : Fin 16 => (⟨S512x128, head x0 x1 x2 h⟩ : (s : Shape) × (s.Idx → F .bf16)))
    concatenates_S512x128_S512x128_S512x128_S512x128_S512x128_S512x128_S512x128_S512x128_S512x128_S512x128_S512x128_S512x128_S512x128_S512x128_S512x128_S512x128_S512x2048_d1

set_option maxHeartbeats 4000000 in
/-- What the body leaves in the output block: the heads through the output projection. -/
theorem out_eq (x0 : Vec F S1x512x2048 .bf16) (x1 : Vec F S1x2048x2048 .bf16) (x2 : Vec F S1x2048x2048 .bf16)
    (x3 : Vec F S2048x2048 .bf16) (x4 : Vec F S1x2048 .f32) :
    out1_5 x0 x1 x2 x3 x4 = View.canon [⟨r1_0, k1_pay3
      (heads (View.ld x0 r1_0) (View.ld x1 r1_1) (View.ld x2 r1_1)) (View.ld x3 r1_2) (View.ld x4 r1_3)⟩] := by
  rfl

end Cert.KernelIdeal.Attn

end
-- ==== Proof.AttnValue.lean ====
/- The attention body over extended reals: on finite queries, keys and values each head's running sums stay the exponentially
   weighted sums of the blocks read so far, so the quotient at the end is the weighted mean over all keys. -/
module

public import proofs.«01_k».proof.Proof.Attn
public import proofs.«01_k».proof.Proof.Reals

@[expose] public section

set_option maxRecDepth 16384

noncomputable section

namespace Cert.KernelIdeal.Attn

open Idealize.ShloMosaic Cert.KernelIdeal Cert.KernelIdeal.Gen Cert.Reals Finset

section Head

variable (x0 : Vec Ideal S1x512x2048 .bf16) (x1 : Vec Ideal S1x2048x2048 .bf16) (x2 : Vec Ideal S1x2048x2048 .bf16)
variable (A K V : ℕ → ℕ → ℝ)
variable (hA : ∀ i, x0 i = ((A (i 1).val (i 2).val : ℝ) : EReal))
variable (hK : ∀ i, x1 i = ((K (i 1).val (i 2).val : ℝ) : EReal))
variable (hV : ∀ i, x2 i = ((V (i 1).val (i 2).val : ℝ) : EReal))

include hA hK in
/-- A block's score. -/
theorem s_apply (h : ℕ) (hh : h < 16) (j : ℕ) (hj : j < 8) (r : Fin 512) (t : Fin 256) :
    s x0 x1 h hh j hj (ix2 r t) = ((score A K h r.val (256 * j + t.val) : ℝ) : EReal) := by
  pointwise [s, q]
  unfold score
  refine sum_eq _ (fun d => A r.val (128 * h + d) * K (256 * j + t.val) (128 * h + d)) fun d => ?_
  rw [hA, hK, ← EReal.coe_mul]
  rfl

include hA hK in
/-- The running maximum is finite. -/
theorem m_real (h : ℕ) (hh : h < 16) (r : Fin 512) : (j : ℕ) → (hj : j ≤ 8) → ∃ μ : ℝ, m x0 x1 h hh j hj (ix2 r 0) = (μ : EReal)
  | 0, _ => lowest_eq
  | j + 1, hj => by
    pointwise [m]
    refine max_real (m_real h hh r j _) (fold_max_real (by norm_num) _ (by rw [neg_inf]; exact bot_ne_top) _ fun k => ?_)
    exact ⟨_, s_apply x0 x1 A K hA hK h hh j hj r k⟩

/-- What the extended values hold in column `c` of row `t`. -/
def wide (V : ℕ → ℕ → ℝ) (h c t : ℕ) : ℝ := if c < 128 then V t (128 * h + c) else 1

include hV in
/-- The values of the head in the first columns, ones in the last. -/
theorem vx_apply (h : ℕ) (hh : h < 16) (t : Fin 2048) (c : Fin 256) :
    vx x2 h hh (ix2 t c) = ((wide V h c.val t.val : ℝ) : EReal) := by
  pointwise [vx]
  unfold wide
  split
  · rw [hV]; rfl
  · rfl

include hA hK hV in
/-- After `j` blocks the running sums are the sums over the keys read so far, weighted relative to the running maximum. -/
theorem acc_apply (h : ℕ) (hh : h < 16) (r : Fin 512) : (j : ℕ) → (hj : j ≤ 8) →
    ∃ μ : ℝ, m x0 x1 h hh j hj (ix2 r 0) = (μ : EReal) ∧ ∀ c : Fin 256, acc x0 x1 x2 h hh j hj (ix2 r c)
      = ((∑ t ∈ range (256 * j), (2 : ℝ) ^ (score A K h r.val t - μ) * wide V h c.val t : ℝ) : EReal)
  | 0, hj => by
    obtain ⟨μ, hμ⟩ := m_real x0 x1 A K hA hK h hh r 0 hj
    refine ⟨μ, hμ, fun c => ?_⟩
    pointwise [acc]
    simp
  | j + 1, hj => by
    obtain ⟨μ, hμ, ih⟩ := acc_apply h hh r j (Nat.le_of_succ_le hj)
    obtain ⟨μ', hμ'⟩ := m_real x0 x1 A K hA hK h hh r (j + 1) hj
    refine ⟨μ', hμ', fun c => ?_⟩
    pointwise [acc]
    rw [ih c, hμ, hμ', exp2_sub, ← EReal.coe_mul]
    rw [sum_eq _ (fun t => (2 : ℝ) ^ (score A K h r.val (256 * j + t) - μ') * wide V h c.val (256 * j + t)) (fun t => by
      rw [s_apply x0 x1 A K hA hK h hh j hj r t, exp2_sub, vx_apply x2 V hV, ← EReal.coe_mul])]
    rw [← EReal.coe_add, Nat.mul_succ, sum_range_add, sum_mul]
    congr 2
    refine sum_congr rfl fun t _ => ?_
    rw [mul_right_comm, ← Real.rpow_add two_pos]
    congr 2; ring

include hA hK hV in
/-- A head's output: the mean of the head's values, key `t` weighing two to the power of its score. -/
theorem head_apply (h : Fin 16) (r : Fin 512) (c : Fin 128) :
    head x0 x1 x2 h (ix2 r c)
      = (((∑ t ∈ range 2048, pow2 A K h.val r.val t * V t (128 * h.val + c.val)) / ∑ t ∈ range 2048, pow2 A K h.val r.val t
          : ℝ) : EReal) := by
  obtain ⟨μ, -, hacc⟩ := acc_apply x0 x1 x2 A K V hA hK hV h.val h.2 r 8 (Nat.le_refl 8)
  have e1 : ∀ t, wide V h.val c.val t = V t (128 * h.val + c.val) := fun t => if_pos c.2
  have e2 : ∀ t, wide V h.val (128 + c.val) t = 1 := fun t => if_neg (by omega)
  have hpos : ∀ t, (0 : ℝ) < (2 : ℝ) ^ (score A K h.val r.val t - μ) := fun t => Real.rpow_pos_of_pos two_pos _
  pointwise [head]
  rw [hacc, hacc]
  simp only [e1, e2, mul_one, Nat.reduceMul]
  rw [div_real _ _ (total_ne 2048 (by norm_num) _ hpos)]
  rw [ratio_scale 2048 (pow2 A K h.val r.val) _ (fun t => V t (128 * h.val + c.val)) ((2 : ℝ) ^ (-μ))
    (Real.rpow_pos_of_pos two_pos _).ne' fun t => by
      rw [pow2, ← Real.rpow_add two_pos]; congr 1; ring]

include hA hK hV in
/-- All heads: column `i` of row `r` is the attention's. -/
theorem heads_apply (r : Fin 512) (i : Fin 2048) :
    heads x0 x1 x2 (ix2 r i) = ((attn (pow2 A K) V r.val i.val : ℝ) : EReal) := by
  have hi : i.val / 128 < 16 := by omega
  have hm : i.val % 128 < 128 := Nat.mod_lt _ (by norm_num)
  unfold heads
  refine (concatenate_ofFn_apply (t := S512x2048) (s₁ := S512x128) 1 (head x0 x1 x2) _ rfl 128 rfl (ix2 r i)
    ⟨i.val / 128, hi⟩ rfl (ix2 r ⟨i.val % 128, hm⟩) rfl fun b hb => ?_).trans ?_
  · fin_cases b
    · rfl
    · exact absurd rfl hb
  rw [head_apply x0 x1 x2 A K V hA hK hV, attn]
  simp only [Nat.div_add_mod]

end Head

/-- What the body leaves in the output block: the attention through the output projection, plus the bias. -/
theorem out_apply (x0 : Vec Ideal S1x512x2048 .bf16) (x1 x2 : Vec Ideal S1x2048x2048 .bf16) (x3 : Vec Ideal S2048x2048 .bf16)
    (x4 : Vec Ideal S1x2048 .f32) (A K V W : ℕ → ℕ → ℝ)
    (hA : ∀ i, x0 i = ((A (i 1).val (i 2).val : ℝ) : EReal)) (hK : ∀ i, x1 i = ((K (i 1).val (i 2).val : ℝ) : EReal))
    (hV : ∀ i, x2 i = ((V (i 1).val (i 2).val : ℝ) : EReal)) (hW : ∀ i, x3 i = ((W (i 0).val (i 1).val : ℝ) : EReal))
    (r : Fin 512) (o : Fin 2048) :
    k1_pay3 (heads x0 x1 x2) x3 x4 (ix3 0 r o)
      = ((∑ i ∈ range 2048, attn (pow2 A K) V r.val i * W o.val i : ℝ) : EReal) + x4 (ix2 0 o) := by
  pointwise [k1_pay3]
  rw [sum_eq _ (fun i => attn (pow2 A K) V r.val i * W o.val i) fun i => by
    rw [heads_apply x0 x1 x2 A K V hA hK hV, hW, ← EReal.coe_mul]; rfl]

end Cert.KernelIdeal.Attn

end
-- ==== Proof.Region1.lean ====
/- The attention region over extended reals: from finite arrays at its entry, the array it leaves holds every head's attention over
   the whole sequence, projected, plus the bias it is given. -/
module

public import proofs.«01_k».proof.Proof.AttnValue
public import Idealize.ShloMosaic.Lib.Pipeline.ValueKit

@[expose] public section

set_option maxRecDepth 16384

noncomputable section

namespace Cert.KernelIdeal.Region1

open Idealize.ShloMosaic Idealize.ShloMosaic.TcCoe Cert.KernelIdeal Cert.KernelIdeal.Gen Cert.Reals Finset

/-- Where the blocks lie at point `t`: batch `t / 4`, query rows from `512 (t mod 4)`; the keys and the values are the second and
    third column blocks of the same array. -/
theorem index_eq : ∀ t : Fin cfg1.grid.N,
    (win1_0.index t 0 = t.val / 4 ∧ win1_0.index t 1 = t.val % 4 ∧ win1_0.index t 2 = 0)
    ∧ (win1_5.index t 0 = t.val / 4 ∧ win1_5.index t 1 = t.val % 4 ∧ win1_5.index t 2 = 0)
    ∧ (win1_1.index t 0 = t.val / 4 ∧ win1_1.index t 1 = 0 ∧ win1_1.index t 2 = 1)
    ∧ (win1_2.index t 0 = t.val / 4 ∧ win1_2.index t 1 = 0 ∧ win1_2.index t 2 = 2)
    ∧ (win1_3.index t 0 = 0 ∧ win1_3.index t 1 = 0) ∧ win1_4.index t 0 = 0 ∧ win1_4.index t 1 = 0 := by decide +kernel

variable (V : (c : Dev nD) → (b : Ref sig .tc) → Buf (Elt Ideal) ((c : Thread nD τ).loc b)) (c : Dev nD)
variable (Y : ℕ → ℕ → ℕ → ℝ) (W : ℕ → ℕ → ℝ)
variable (h0 : ∀ i : S2x2048x6144.Idx, V c main_v14 i = ((Y (i 0).val (i 1).val (i 2).val : ℝ) : EReal))
variable (h3 : ∀ i : S2048x2048.Idx, V c main_v4 i = ((W (i 0).val (i 1).val : ℝ) : EReal))

/-- What the region leaves at batch `b`, row `s`, output `o`, before the bias. -/
def proj (b s o : ℕ) : ℝ :=
  ∑ k ∈ range 2048, attn (pow2 (Y b) fun t d => Y b t (2048 + d)) (fun t d => Y b t (4096 + d)) s k * W o k

/-- The array the region leaves, the bias `B` added. -/
def res (B : ℕ → EReal) (i : S2x2048x2048.Idx) : EReal := ((proj Y W (i 0).val (i 1).val (i 2).val : ℝ) : EReal) + B (i 2).val

include h0 h3 in
/-- The array the region leaves. -/
theorem arr_eq (B : ℕ → EReal) (h4 : ∀ i : S1x2048.Idx, V c main_v12 i = B (i 1).val) :
    (dat1 V c).arrAt 5 cfg1.N = res Y W B := by
  refine (dat1 V c).arrAt_eq_of_covers 5 (res Y W B) (by decide +kernel) fun t hf y => ?_
  blk_simp
  rw [after1_5, Attn.out_eq]
  frame_out
  idx_vars y
  obtain rfl : y0 = 0 := Subsingleton.elim _ _
  obtain ⟨e0, e5, e1, e2, e3, e4⟩ := index_eq t
  refine (Attn.out_apply _ _ _ _ _ (fun r d => Y (t.val / 4) (512 * (t.val % 4) + r) d) (fun r d => Y (t.val / 4) r (2048 + d))
    (fun r d => Y (t.val / 4) r (4096 + d)) W ?_ ?_ ?_ ?_ y1 y2).trans ?_
  · exact fun i => (h0 (((cfg1.win 0).blk t).view.emb i)).trans (by blk_simp [e0.1, e0.2.1, e0.2.2, Nat.mul_comm (t.val % 4) 512, Nat.zero_mul, Nat.zero_add])
  · exact fun i => (h0 (((cfg1.win 1).blk t).view.emb i)).trans (by blk_simp [e1.1, e1.2.1, e1.2.2, Nat.zero_mul, Nat.zero_add])
  · exact fun i => (h0 (((cfg1.win 2).blk t).view.emb i)).trans (by blk_simp [e2.1, e2.2.1, e2.2.2, Nat.zero_mul, Nat.zero_add])
  · exact fun i => (h3 (((cfg1.win 3).blk t).view.emb i)).trans (by blk_simp [e3.1, e3.2, Nat.zero_mul, Nat.zero_add])
  · have hb : iblk1 V c 4 t (ix2 0 y2) = B y2.val := (h4 (((cfg1.win 4).blk t).view.emb (ix2 0 y2))).trans (by blk_simp [e4.2, Nat.zero_mul, Nat.zero_add])
    unfold res
    blk_simp [e5.1, e5.2.1, e5.2.2, Nat.mul_comm (t.val % 4) 512, Nat.zero_mul, Nat.zero_add]
    rw [hb]; rfl

end Cert.KernelIdeal.Region1

end
-- ==== Proof.KernelValue.lean ====
/- What the idealized kernel computes on finite arguments: the host operations around its two regions, and the composition of the
   regions' arrays. -/
module

public import proofs.«01_k».proof.Proof.Region0
public import proofs.«01_k».proof.Proof.Region1
public import Idealize.ShloMosaic.Lib.Pointwise

@[expose] public section

set_option maxRecDepth 16384

noncomputable section

namespace Cert.KernelIdeal.Result

open Idealize.ShloMosaic Idealize.ShloMosaic.TcCoe Idealize.ShloMosaic.Tactic Cert.KernelIdeal Cert.KernelIdeal.Gen Cert.Reals Finset

section Shapes

/-- The batches' rows one after the other, at a row. -/
theorem rows_apply (x : FVec Ideal S2x2048x2048 .f32) (X : ℕ → ℕ → ℕ → ℝ)
    (h : ∀ i, x i = ((X (i 0).val (i 1).val (i 2).val : ℝ) : EReal)) (i : S4096x2048.Idx) :
    shapeCast S4096x2048 x shapeCasts_S2x2048x2048_S4096x2048 i = ((X ((i 0).val / 2048) ((i 0).val % 2048) (i 1).val : ℝ) : EReal) := by
  idx_vars i
  pointwise
  exact h _

/-- The rows cut into batches, at a row of a batch. -/
theorem batches_apply (x : FVec Ideal S4096x6144 .bf16) (i : S2x2048x6144.Idx) (Y : ℕ → ℕ → ℝ)
    (h : ∀ i, x i = ((Y (i 0).val (i 1).val : ℝ) : EReal)) :
    shapeCast S2x2048x6144 x shapeCasts_S4096x6144_S2x2048x6144 i = ((Y ((i 0).val * 2048 + (i 1).val) (i 2).val : ℝ) : EReal) := by
  pointwise
  exact h _

/-- A vector as a row, at a column. -/
theorem row_apply (x : FVec Ideal S2048 .f32) (b : ℕ → ℝ) (h : ∀ i, x i = ((b (i 0).val : ℝ) : EReal)) (i : S1x2048.Idx) :
    shapeCast S1x2048 x shapeCasts_S2048_S1x2048 i = ((b (i 1).val : ℝ) : EReal) := by
  pointwise
  exact h _

/-- The bias the kernel folds before its launch: the values' bias through the output projection, plus the output's own. -/
theorem fold_apply (bo bv : FVec Ideal S2048 .f32) (W : FVec Ideal S2048x2048 .f32) (v : ℕ → ℝ) (w : ℕ → ℕ → ℝ)
    (hv : ∀ i, bv i = ((v (i 0).val : ℝ) : EReal)) (hW : ∀ i, W i = ((w (i 0).val (i 1).val : ℝ) : EReal)) (i : S1x2048.Idx) :
    shapeCast S1x2048 (addf bo (Host.dotGeneral dot_S2048_S2048x2048_S2048_0_0_n_1_n_n none bv
        (transpose S2048x2048 [1, 0] W transposes_S2048x2048_S2048x2048_1_0))) shapeCasts_S2048_S1x2048 i
      = bo (ix1 (i 1)) + ((∑ k ∈ range 2048, v k * w (i 1).val k : ℝ) : EReal) := by
  pointwise
  rw [sum_eq _ (fun k => v k * w (i 1).val k) fun k => by rw [hv, hW, ← EReal.coe_mul]; rfl]

end Shapes

section Entry

variable {F : FTy → Type} [FloatOps F] [Named F]
variable (m : (ℓ : Loc nD τ sig) → Buf (Elt F) ℓ) (ρ : Dev nD → PrngReg) (c : Dev nD)

/-- The token rows at the first region's entry. -/
theorem v0_eq : V1 m ρ c main_v0 = shapeCast S4096x2048 (m ((c : Thread nD τ).loc main_arg0) : FVec F S2x2048x2048 .f32) shapeCasts_S2x2048x2048_S4096x2048 := by
  show StableHlo.after hostOps0 _ _ = _
  after_results_simp
  all_goals rfl

/-- The queries' weights there. -/
theorem v1_eq : V1 m ρ c main_v1 = truncf .bf16 (m ((c : Thread nD τ).loc main_arg1) : FVec F S2048x2048 .f32) bitsLt_bf16_f32 := by
  show StableHlo.after hostOps0 _ _ = _
  after_results_simp
  all_goals rfl

/-- The keys' weights there. -/
theorem v2_eq : V1 m ρ c main_v2 = truncf .bf16 (m ((c : Thread nD τ).loc main_arg3) : FVec F S2048x2048 .f32) bitsLt_bf16_f32 := by
  show StableHlo.after hostOps0 _ _ = _
  after_results_simp
  all_goals rfl

/-- The values' weights there. -/
theorem v3_eq : V1 m ρ c main_v3 = truncf .bf16 (m ((c : Thread nD τ).loc main_arg5) : FVec F S2048x2048 .f32) bitsLt_bf16_f32 := by
  show StableHlo.after hostOps0 _ _ = _
  after_results_simp
  all_goals rfl

/-- The output projection's weights there. -/
theorem v4_eq : V1 m ρ c main_v4 = truncf .bf16 (m ((c : Thread nD τ).loc main_arg9) : FVec F S2048x2048 .f32) bitsLt_bf16_f32 := by
  show StableHlo.after hostOps0 _ _ = _
  after_results_simp
  all_goals rfl

/-- The queries' bias there. -/
theorem v5_eq : V1 m ρ c main_v5 = shapeCast S1x2048 (m ((c : Thread nD τ).loc main_arg2) : FVec F S2048 .f32) shapeCasts_S2048_S1x2048 := by
  show StableHlo.after hostOps0 _ _ = _
  after_results_simp
  all_goals rfl

/-- The keys' bias there. -/
theorem v6_eq : V1 m ρ c main_v6 = shapeCast S1x2048 (m ((c : Thread nD τ).loc main_arg4) : FVec F S2048 .f32) shapeCasts_S2048_S1x2048 := by
  show StableHlo.after hostOps0 _ _ = _
  after_results_simp
  all_goals rfl

/-- The queries' gain there. -/
theorem v7_eq : V1 m ρ c main_v7 = shapeCast S1x2048 (m ((c : Thread nD τ).loc main_arg7) : FVec F S2048 .f32) shapeCasts_S2048_S1x2048 := by
  show StableHlo.after hostOps0 _ _ = _
  after_results_simp
  all_goals rfl

/-- The keys' gain there. -/
theorem v8_eq : V1 m ρ c main_v8 = shapeCast S1x2048 (m ((c : Thread nD τ).loc main_arg8) : FVec F S2048 .f32) shapeCasts_S2048_S1x2048 := by
  show StableHlo.after hostOps0 _ _ = _
  after_results_simp
  all_goals rfl

/-- The folded bias there. -/
theorem v12_eq : V1 m ρ c main_v12 = shapeCast S1x2048 (addf (m ((c : Thread nD τ).loc main_arg10) : FVec F S2048 .f32)
    (Host.dotGeneral dot_S2048_S2048x2048_S2048_0_0_n_1_n_n none (m ((c : Thread nD τ).loc main_arg6) : FVec F S2048 .f32)
      (transpose S2048x2048 [1, 0] (m ((c : Thread nD τ).loc main_arg9) : FVec F S2048x2048 .f32) transposes_S2048x2048_S2048x2048_1_0)))
    shapeCasts_S2048_S1x2048 := by
  show StableHlo.after hostOps0 _ _ = _
  after_results_simp
  all_goals rfl

/-- A buffer that neither the first region nor the second stretch writes reaches the second region as it entered the first. -/
theorem V3_of (r : Ref sig .tc) (h : r ∉ hostOps1_W) (h' : ∀ w : Fin cfg0.W, Pipeline.arrRef spec0 w = r → (cfg0.win w).isOut = false) :
    V3 m ρ c r = V1 m ρ c r := (W3_of m ρ c r h).trans (W2_of m ρ c r h')

/-- The first region's rows, cut into batches, at the second region's entry. -/
theorem v14_eq : V3 m ρ c main_v14 = shapeCast S2x2048x6144 ((dat0 (V1 m ρ) c).arrAt 8 cfg0.N : FVec F S4096x6144 .bf16) shapeCasts_S4096x6144_S2x2048x6144 := by
  rw [← W2_arr m ρ c 8]
  show StableHlo.after hostOps1 _ _ = _
  after_results_simp
  all_goals rfl

end Entry

/-- The kernel's result on finite arguments, its last bias left as it is. -/
theorem res_apply (m : (ℓ : Loc nD τ sig) → Buf (Elt Ideal) ℓ) (ρ : Dev nD → PrngReg) (c : Dev nD)
    (X : ℕ → ℕ → ℕ → ℝ) (Wq Wk Wv Wo : ℕ → ℕ → ℝ) (bq bk bv gq gk : ℕ → ℝ)
    (h0 : ∀ i : S2x2048x2048.Idx, m ((c.tc : Thread nD τ).loc main_arg0) i = ((X (i 0).val (i 1).val (i 2).val : ℝ) : EReal))
    (h1 : ∀ i : S2048x2048.Idx, m ((c.tc : Thread nD τ).loc main_arg1) i = ((Wq (i 0).val (i 1).val : ℝ) : EReal))
    (h2 : ∀ i : S2048.Idx, m ((c.tc : Thread nD τ).loc main_arg2) i = ((bq (i 0).val : ℝ) : EReal))
    (h3 : ∀ i : S2048x2048.Idx, m ((c.tc : Thread nD τ).loc main_arg3) i = ((Wk (i 0).val (i 1).val : ℝ) : EReal))
    (h4 : ∀ i : S2048.Idx, m ((c.tc : Thread nD τ).loc main_arg4) i = ((bk (i 0).val : ℝ) : EReal))
    (h5 : ∀ i : S2048x2048.Idx, m ((c.tc : Thread nD τ).loc main_arg5) i = ((Wv (i 0).val (i 1).val : ℝ) : EReal))
    (h6 : ∀ i : S2048.Idx, m ((c.tc : Thread nD τ).loc main_arg6) i = ((bv (i 0).val : ℝ) : EReal))
    (h7 : ∀ i : S2048.Idx, m ((c.tc : Thread nD τ).loc main_arg7) i = ((gq (i 0).val : ℝ) : EReal))
    (h8 : ∀ i : S2048.Idx, m ((c.tc : Thread nD τ).loc main_arg8) i = ((gk (i 0).val : ℝ) : EReal))
    (h9 : ∀ i : S2048x2048.Idx, m ((c.tc : Thread nD τ).loc main_arg9) i = ((Wo (i 0).val (i 1).val : ℝ) : EReal))
    (bo : ℕ → EReal) (h10 : ∀ i : S2048.Idx, m ((c.tc : Thread nD τ).loc main_arg10) i = bo (i 0).val) :
    W4 m ρ c (Proc.devRef .tc main_v15) = Region1.res (fun b s k => Qkv.row (lin (fun R => X (R / 2048) (R % 2048)) Wq bq)
        (lin (fun R => X (R / 2048) (R % 2048)) Wk bk) (lin (fun R => X (R / 2048) (R % 2048)) Wv fun _ => 0) gq gk (b * 2048 + s) k) Wo
      (fun o => bo o + ((∑ k ∈ range 2048, bv k * Wo o k : ℝ) : EReal)) := by
  refine (W4_arr m ρ c 5).trans (Region1.arr_eq (V3 m ρ) c _ Wo (fun i => ?_) (fun i => ?_) _ fun i => ?_)
  · rw [v14_eq]
    refine batches_apply _ i (fun R k => Qkv.row (lin (fun R => X (R / 2048) (R % 2048)) Wq bq)
        (lin (fun R => X (R / 2048) (R % 2048)) Wk bk) (lin (fun R => X (R / 2048) (R % 2048)) Wv fun _ => 0) gq gk R k) fun j => ?_
    rw [Region0.arr_eq (V1 m ρ) c (fun R => X (R / 2048) (R % 2048)) Wq Wk Wv bq bk gq gk
      (fun i => by rw [v0_eq]; exact rows_apply _ X h0 i) (fun i => by rw [v1_eq]; exact h1 i) (fun i => by rw [v2_eq]; exact h3 i)
      (fun i => by rw [v3_eq]; exact h5 i) (fun i => by rw [v5_eq]; exact row_apply _ bq h2 i) (fun i => by rw [v6_eq]; exact row_apply _ bk h4 i)
      (fun i => by rw [v7_eq]; exact row_apply _ gq h7 i) (fun i => by rw [v8_eq]; exact row_apply _ gk h8 i)]
  · rw [V3_of m ρ c main_v4 (by decide) (by decide), v4_eq]
    exact h9 i
  · rw [V3_of m ρ c main_v12 (by decide) (by decide), v12_eq]
    refine (fold_apply _ _ _ bv Wo h6 h9 i).trans ?_
    rw [h10]
    rfl

end Cert.KernelIdeal.Result

end
-- ==== Proof.RefStages.lean ====
/- The reference's program, stage by stage: the pieces its composed term is made of, and each piece at an index over extended reals. -/
module

public import proofs.«01_k».proof.Proof.Gen.ReferenceIdeal.Run
public import proofs.«01_k».proof.Proof.QkvValue

@[expose] public section

set_option maxRecDepth 16384

noncomputable section

namespace Cert.ReferenceIdeal.Stages

open Idealize.ShloMosaic Idealize.ShloMosaic.TcCoe Cert.ReferenceIdeal Cert.ReferenceIdeal.Gen Cert.Reals Finset

section Stages

variable {F : FTy → Type} [FloatOps F]

/-- A vector along the last axis of every row. -/
def along (b : FVec F S2048 .f32) : FVec F S2x2048x2048 .f32 :=
  broadcastInDim S2x2048x2048 ![0, 1, 2] bcast_S1x1x2048_S2x2048x2048_0_1_2 (broadcastInDim S1x1x2048 ![2] bcast_S2048_S1x1x2048_2 b)

/-- A linear layer. -/
def linear (x : FVec F S2x2048x2048 .f32) (W : FVec F S2048x2048 .f32) (b : FVec F S2048 .f32) : FVec F S2x2048x2048 .f32 :=
  addf (Host.dotGeneral dot_S2x2048x2048_S2048x2048_S2x2048x2048_2_0_01_1_n_n none x
    (transpose S2048x2048 [1, 0] W transposes_S2048x2048_S2048x2048_1_0)) (along b)

/-- The normalisation of the rows by their root mean square, then the gain. -/
def norm (y : FVec F S2x2048x2048 .f32) (g : FVec F S2048 .f32) : FVec F S2x2048x2048 .f32 :=
  mulf (mulf y (broadcastInDim S2x2048x2048 ![0, 1, 2] bcast_S2x2048x1_S2x2048x2048_0_1_2 (Host.rsqrt (addf (Host.divf
    (broadcastInDim S2x2048x1 ![0, 1] bcast_S2x2048_S2x2048x1_0_1 (Host.reduceAdd (mulf y y) (constant S_ .f32 0x00000000#32) reducesTo_S2x2048x2048_S2x2048_d2 h_S_))
    (broadcastInDim S2x2048x1 ![] bcast_S_S2x2048x1 (constant S_ .f32 0x45000000#32)))
    (broadcastInDim S2x2048x1 ![] bcast_S_S2x2048x1 (constant S_ .f32 0x3727C5AC#32)))))) (along g)

/-- The columns cut into heads. -/
def split (y : FVec F S2x2048x2048 .f32) : FVec F S2x16x2048x128 .f32 :=
  transpose S2x16x2048x128 [0, 2, 1, 3] (shapeCast _ y shapeCasts_S2x2048x2048_S2x2048x16x128) transposes_S2x2048x16x128_S2x16x2048x128_0_2_1_3

/-- The scaled scores. -/
def scores (q k : FVec F S2x16x2048x128 .f32) : FVec F S2x16x2048x2048 .f32 :=
  mulf (Host.dotGeneral dot_S2x16x2048x128_S2x16x2048x128_S2x16x2048x2048_3_3_2_2_01_01 none q k)
    (broadcastInDim S2x16x2048x2048 ![] bcast_S_S2x16x2048x2048 (constant S_ .f32 0x3DB504F3#32))

/-- A number per row, along the row. -/
def rowwise (x : FVec F S2x16x2048 .f32) : FVec F S2x16x2048x2048 .f32 :=
  broadcastInDim S2x16x2048x2048 ![0, 1, 2, 3] bcast_S2x16x2048x1_S2x16x2048x2048_0_1_2_3 (broadcastInDim S2x16x2048x1 ![0, 1, 2] bcast_S2x16x2048_S2x16x2048x1_0_1_2 x)

/-- Every row's maximum. -/
def top (s : FVec F S2x16x2048x2048 .f32) : FVec F S2x16x2048 .f32 :=
  maximumf (broadcastInDim S2x16x2048 ![] bcast_S_S2x16x2048 (constant S_ .f32 0xFF800000#32))
    (Host.reduce FloatOps.maximumf s (constant S_ .f32 0xFF800000#32) reducesTo_S2x16x2048x2048_S2x16x2048_d3 h_S_)

/-- The exponentials of the scores, less the row's maximum. -/
def expo (s : FVec F S2x16x2048x2048 .f32) : FVec F S2x16x2048x2048 .f32 := Host.exp (subf s (rowwise (top s)))

/-- Every row over its sum. -/
def share (e : FVec F S2x16x2048x2048 .f32) : FVec F S2x16x2048x2048 .f32 :=
  Host.divf e (rowwise (Host.reduceAdd e (constant S_ .f32 0x00000000#32) reducesTo_S2x16x2048x2048_S2x16x2048_d3 h_S_))

/-- The heads' weighted values side by side. -/
def mix (p : FVec F S2x16x2048x2048 .f32) (v : FVec F S2x16x2048x128 .f32) : FVec F S2x2048x2048 .f32 :=
  shapeCast _ (transpose S2x2048x16x128 [0, 2, 1, 3] (Host.dotGeneral dot_S2x16x2048x2048_S2x16x2048x128_S2x16x2048x128_3_2_2_3_01_01 none p v)
    transposes_S2x16x2048x128_S2x2048x16x128_0_2_1_3) shapeCasts_S2x2048x16x128_S2x2048x2048

/-- The reference's result is its stages, composed. -/
theorem res_eq (m : (ℓ : Loc nD τ sig) → Buf (Elt F) ℓ) (c : Dev nD) :
    Value.res_main_v68 m c = linear (mix (share (expo (scores
        (split (norm (linear (m ((c.tc : Thread nD τ).loc main_arg0)) (m ((c.tc : Thread nD τ).loc main_arg1)) (m ((c.tc : Thread nD τ).loc main_arg2))) (m ((c.tc : Thread nD τ).loc main_arg7))))
        (split (norm (linear (m ((c.tc : Thread nD τ).loc main_arg0)) (m ((c.tc : Thread nD τ).loc main_arg3)) (m ((c.tc : Thread nD τ).loc main_arg4))) (m ((c.tc : Thread nD τ).loc main_arg8)))))))
      (split (linear (m ((c.tc : Thread nD τ).loc main_arg0)) (m ((c.tc : Thread nD τ).loc main_arg5)) (m ((c.tc : Thread nD τ).loc main_arg6)))))
      (m ((c.tc : Thread nD τ).loc main_arg9)) (m ((c.tc : Thread nD τ).loc main_arg10)) := by
  unfold Value.res_main_v68
  rfl

end Stages

section Values

/-- A linear layer on finite arrays, the bias left as it is. -/
theorem linear_apply (x : FVec Ideal S2x2048x2048 .f32) (W : FVec Ideal S2048x2048 .f32) (b : FVec Ideal S2048 .f32)
    (X : ℕ → ℕ → ℕ → ℝ) (w : ℕ → ℕ → ℝ) (hx : ∀ i, x i = ((X (i 0).val (i 1).val (i 2).val : ℝ) : EReal))
    (hW : ∀ i, W i = ((w (i 0).val (i 1).val : ℝ) : EReal)) (i : S2x2048x2048.Idx) :
    linear x W b i = ((∑ d ∈ range 2048, X (i 0).val (i 1).val d * w (i 2).val d : ℝ) : EReal) + b (ix1 (i 2)) := by
  pointwise [linear, along]
  rw [sum_eq _ (fun d => X (i 0).val (i 1).val d * w (i 2).val d) fun d => by rw [hx, hW, ← EReal.coe_mul]; rfl]

/-- A linear layer on finite arrays. -/
theorem linear_real (x : FVec Ideal S2x2048x2048 .f32) (W : FVec Ideal S2048x2048 .f32) (b : FVec Ideal S2048 .f32)
    (X : ℕ → ℕ → ℕ → ℝ) (w : ℕ → ℕ → ℝ) (c : ℕ → ℝ) (hx : ∀ i, x i = ((X (i 0).val (i 1).val (i 2).val : ℝ) : EReal))
    (hW : ∀ i, W i = ((w (i 0).val (i 1).val : ℝ) : EReal)) (hb : ∀ i, b i = ((c (i 0).val : ℝ) : EReal)) (i : S2x2048x2048.Idx) :
    linear x W b i = ((lin (X (i 0).val) w c (i 1).val (i 2).val : ℝ) : EReal) := by
  rw [linear_apply x W b X w hx hW, hb, ← EReal.coe_add]
  rfl

/-- The normalisation on finite arrays. -/
theorem norm_apply (y : FVec Ideal S2x2048x2048 .f32) (g : FVec Ideal S2048 .f32) (Y : ℕ → ℕ → ℕ → ℝ) (G : ℕ → ℝ)
    (hy : ∀ i, y i = ((Y (i 0).val (i 1).val (i 2).val : ℝ) : EReal)) (hg : ∀ i, g i = ((G (i 0).val : ℝ) : EReal))
    (i : S2x2048x2048.Idx) : norm y g i = ((rms eps (Y (i 0).val) G (i 1).val (i 2).val : ℝ) : EReal) := by
  pointwise [norm, along]
  rw [KernelIdeal.Qkv.rs_eq _ (Y (i 0).val) (i 1).val fun k => by rw [hy, ← EReal.coe_mul]; rfl]
  rw [hy, hg, ← EReal.coe_mul, ← EReal.coe_mul]
  rfl

/-- The scaled scores of finite arrays. -/
theorem scores_apply (q k : FVec Ideal S2x2048x2048 .f32) (A K : ℕ → ℕ → ℕ → ℝ)
    (hq : ∀ i, q i = ((A (i 0).val (i 1).val (i 2).val : ℝ) : EReal)) (hk : ∀ i, k i = ((K (i 0).val (i 1).val (i 2).val : ℝ) : EReal))
    (i : S2x16x2048x2048.Idx) : scores (split q) (split k) i
      = ((score (A (i 0).val) (K (i 0).val) (i 1).val (i 2).val (i 3).val * sc : ℝ) : EReal) := by
  pointwise [scores, split]
  rw [sum_eq _ (fun d => A (i 0).val (i 2).val (128 * (i 1).val + d) * K (i 0).val (i 3).val (128 * (i 1).val + d)) fun d => by
    rw [hq, hk, ← EReal.coe_mul, Nat.mul_comm 128]; rfl, sc_eq, ← EReal.coe_mul]
  rfl

/-- A row's maximum, as a fold. -/
theorem max_apply (s : FVec Ideal S2x16x2048x2048 .f32) (c : FVec Ideal S_ .f32) (i : S2x16x2048.Idx) :
    Host.reduce FloatOps.maximumf s c reducesTo_S2x16x2048x2048_S2x16x2048_d3 h_S_ i
      = univ.fold max (c (Shape.Idx.first h_S_)) fun k : Fin 2048 => s (ix4 (i 0) (i 1) (i 2) k) := by
  simp only [pointwise]

/-- The larger of two arrays at an index. -/
theorem larger_apply {t : Shape} (a b : FVec Ideal t .f32) (i : t.Idx) : (maximumf a b i : EReal) = max (a i : EReal) (b i) := rfl

/-- A constant spread over an array. -/
theorem spread_apply {t : Shape} (w : BitVec 32) (h : S_.BroadcastsInDim t (![] : Fin 0 → Fin t.rank)) (i : t.Idx) :
    broadcastInDim t ![] h (constant (F := Ideal) S_ .f32 w) i = Ideal.ofBits .f32 w := rfl

/-- A row's maximum is finite. -/
theorem top_real (s : FVec Ideal S2x16x2048x2048 .f32) (hs : ∀ i, ∃ r : ℝ, s i = (r : EReal)) (i : S2x16x2048.Idx) :
    ∃ μ : ℝ, top s i = (μ : EReal) := by
  have hc : ∀ j, constant (F := Ideal) S_ .f32 0xFF800000#32 j = ⊥ := fun _ => neg_inf
  obtain ⟨μ, hμ⟩ := fold_max_real (by norm_num) ⊥ bot_ne_top (fun k : Fin 2048 => s (ix4 (i 0) (i 1) (i 2) k)) fun k => hs _
  refine ⟨μ, ?_⟩
  unfold top
  rw [larger_apply, spread_apply, max_apply, neg_inf, hc, hμ]
  exact max_eq_right bot_le

/-- The normalised exponentials of finite scores: the maximum of the row drops out. -/
theorem share_apply (s : FVec Ideal S2x16x2048x2048 .f32) (S : ℕ → ℕ → ℕ → ℕ → ℝ)
    (hs : ∀ i, s i = ((S (i 0).val (i 1).val (i 2).val (i 3).val : ℝ) : EReal)) (i : S2x16x2048x2048.Idx) :
    share (expo s) i = ((Real.exp (S (i 0).val (i 1).val (i 2).val (i 3).val)
      / ∑ t ∈ range 2048, Real.exp (S (i 0).val (i 1).val (i 2).val t) : ℝ) : EReal) := by
  obtain ⟨μ, hμ⟩ := top_real s (fun i => ⟨_, hs i⟩) (ix3 (i 0) (i 1) (i 2))
  pointwise [share, expo, rowwise]
  rw [sum_eq _ (fun t => Real.exp (-μ) * Real.exp (S (i 0).val (i 1).val (i 2).val t)) fun t => by
    rw [hs, ← Real.exp_add, neg_add_eq_sub, ← exp_sub, ← hμ]; rfl]
  rw [hs, hμ, exp_sub, div_real, ← mul_sum, sub_eq_neg_add, Real.exp_add, mul_div_mul_left _ _ (Real.exp_ne_zero _)]
  exact total_ne 2048 (by norm_num) _ fun t => mul_pos (Real.exp_pos _) (Real.exp_pos _)

/-- The weighted values of finite arrays. -/
theorem mix_apply (p : FVec Ideal S2x16x2048x2048 .f32) (v : FVec Ideal S2x2048x2048 .f32) (w : ℕ → ℕ → ℕ → ℕ → ℝ) (V : ℕ → ℕ → ℕ → ℝ)
    (hp : ∀ i, p i = ((w (i 0).val (i 1).val (i 2).val (i 3).val / ∑ t ∈ range 2048, w (i 0).val (i 1).val (i 2).val t : ℝ) : EReal))
    (hv : ∀ i, v i = ((V (i 0).val (i 1).val (i 2).val : ℝ) : EReal)) (i : S2x2048x2048.Idx) :
    mix p (split v) i = ((attn (w (i 0).val) (V (i 0).val) (i 1).val (i 2).val : ℝ) : EReal) := by
  pointwise [mix, split]
  rw [sum_eq _ (fun t => w (i 0).val ((i 2).val / 128) (i 1).val t / (∑ u ∈ range 2048, w (i 0).val ((i 2).val / 128) (i 1).val u)
    * V (i 0).val t (i 2).val) fun t => by rw [hp, hv, ← EReal.coe_mul]; rfl]
  simp only [div_mul_eq_mul_div, ← sum_div]
  rfl

end Values

/-- The reference's result on finite arguments, its last bias left as it is. -/
theorem res_apply (m : (ℓ : Loc nD τ sig) → Buf (Elt Ideal) ℓ) (c : Dev nD)
    (X : ℕ → ℕ → ℕ → ℝ) (Wq Wk Wv Wo : ℕ → ℕ → ℝ) (bq bk bv gq gk : ℕ → ℝ)
    (h0 : ∀ i : S2x2048x2048.Idx, m ((c.tc : Thread nD τ).loc main_arg0) i = ((X (i 0).val (i 1).val (i 2).val : ℝ) : EReal))
    (h1 : ∀ i : S2048x2048.Idx, m ((c.tc : Thread nD τ).loc main_arg1) i = ((Wq (i 0).val (i 1).val : ℝ) : EReal))
    (h2 : ∀ i : S2048.Idx, m ((c.tc : Thread nD τ).loc main_arg2) i = ((bq (i 0).val : ℝ) : EReal))
    (h3 : ∀ i : S2048x2048.Idx, m ((c.tc : Thread nD τ).loc main_arg3) i = ((Wk (i 0).val (i 1).val : ℝ) : EReal))
    (h4 : ∀ i : S2048.Idx, m ((c.tc : Thread nD τ).loc main_arg4) i = ((bk (i 0).val : ℝ) : EReal))
    (h5 : ∀ i : S2048x2048.Idx, m ((c.tc : Thread nD τ).loc main_arg5) i = ((Wv (i 0).val (i 1).val : ℝ) : EReal))
    (h6 : ∀ i : S2048.Idx, m ((c.tc : Thread nD τ).loc main_arg6) i = ((bv (i 0).val : ℝ) : EReal))
    (h7 : ∀ i : S2048.Idx, m ((c.tc : Thread nD τ).loc main_arg7) i = ((gq (i 0).val : ℝ) : EReal))
    (h8 : ∀ i : S2048.Idx, m ((c.tc : Thread nD τ).loc main_arg8) i = ((gk (i 0).val : ℝ) : EReal))
    (h9 : ∀ i : S2048x2048.Idx, m ((c.tc : Thread nD τ).loc main_arg9) i = ((Wo (i 0).val (i 1).val : ℝ) : EReal))
    (i : S2x2048x2048.Idx) :
    (Value.res_main_v68 m c : FVec Ideal S2x2048x2048 .f32) i
      = ((∑ k ∈ range 2048, attn (fun h r t => Real.exp (score (rms eps (lin (X (i 0).val) Wq bq) gq) (rms eps (lin (X (i 0).val) Wk bk) gk) h r t * sc))
          (lin (X (i 0).val) Wv bv) (i 1).val k * Wo (i 2).val k : ℝ) : EReal)
        + (m ((c.tc : Thread nD τ).loc main_arg10) : FVec Ideal S2048 .f32) (ix1 (i 2)) := by
  rw [res_eq]
  refine linear_apply _ _ _ (fun b s k => attn (fun h r t => Real.exp (score (rms eps (lin (X b) Wq bq) gq) (rms eps (lin (X b) Wk bk) gk) h r t * sc))
    (lin (X b) Wv bv) s k) Wo (fun j => ?_) h9 i
  refine mix_apply _ _ (fun b h r t => Real.exp (score (rms eps (lin (X b) Wq bq) gq) (rms eps (lin (X b) Wk bk) gk) h r t * sc))
    (fun b => lin (X b) Wv bv) (fun j => ?_) (linear_real _ _ _ X Wv bv h0 h5 h6) j
  refine share_apply _ (fun b h r t => score (rms eps (lin (X b) Wq bq) gq) (rms eps (lin (X b) Wk bk) gk) h r t * sc) (fun j => ?_) j
  exact scores_apply _ _ (fun b => rms eps (lin (X b) Wq bq) gq) (fun b => rms eps (lin (X b) Wk bk) gk)
    (norm_apply _ _ (fun b => lin (X b) Wq bq) gq (linear_real _ _ _ X Wq bq h0 h1 h2) h7)
    (norm_apply _ _ (fun b => lin (X b) Wk bk) gk (linear_real _ _ _ X Wk bk h0 h3 h4) h8) j

end Cert.ReferenceIdeal.Stages

end
-- ==== Proof.Algebraic.lean ====
/- The value claim: from finite arguments the idealized kernel and the idealized reference leave the same result. -/
module

public import proofs.«01_k».proof.Defs
public import proofs.«01_k».proof.Proof.Bridge
public import proofs.«01_k».proof.Proof.Finite
public import proofs.«01_k».proof.Proof.KernelRun
public import proofs.«01_k».proof.Proof.KernelValue
public import proofs.«01_k».proof.Proof.RefStages

@[expose] public section

set_option maxRecDepth 16384

noncomputable section

open Idealize.ShloMosaic Idealize.ShloMosaic.TcCoe Idealize.SL.Sem

namespace Cert.Proof

open Cert.Finite Cert.KernelIdeal.Gen in
/-- From memories that agree on finite arguments, the reference's result is what the kernel's last region leaves. -/
theorem result_eq (m : (ℓ : Loc KernelIdeal.nD KernelIdeal.τ KernelIdeal.sig) → Buf (Elt Ideal) ℓ) (ρ : Dev KernelIdeal.nD → PrngReg)
    (m' : (ℓ : Loc ReferenceIdeal.nD ReferenceIdeal.τ ReferenceIdeal.sig) → Buf (Elt Ideal) ℓ) (c : Dev KernelIdeal.nD)
    (hpre : Cert.Pre_KernelIdeal_finite_args m)
    (e0 : m' ((c.tc : Thread ReferenceIdeal.nD ReferenceIdeal.τ).loc ReferenceIdeal.main_arg0) = m ((c.tc : Thread KernelIdeal.nD KernelIdeal.τ).loc KernelIdeal.main_arg0))
    (e1 : m' ((c.tc : Thread ReferenceIdeal.nD ReferenceIdeal.τ).loc ReferenceIdeal.main_arg1) = m ((c.tc : Thread KernelIdeal.nD KernelIdeal.τ).loc KernelIdeal.main_arg1))
    (e2 : m' ((c.tc : Thread ReferenceIdeal.nD ReferenceIdeal.τ).loc ReferenceIdeal.main_arg2) = m ((c.tc : Thread KernelIdeal.nD KernelIdeal.τ).loc KernelIdeal.main_arg2))
    (e3 : m' ((c.tc : Thread ReferenceIdeal.nD ReferenceIdeal.τ).loc ReferenceIdeal.main_arg3) = m ((c.tc : Thread KernelIdeal.nD KernelIdeal.τ).loc KernelIdeal.main_arg3))
    (e4 : m' ((c.tc : Thread ReferenceIdeal.nD ReferenceIdeal.τ).loc ReferenceIdeal.main_arg4) = m ((c.tc : Thread KernelIdeal.nD KernelIdeal.τ).loc KernelIdeal.main_arg4))
    (e5 : m' ((c.tc : Thread ReferenceIdeal.nD ReferenceIdeal.τ).loc ReferenceIdeal.main_arg5) = m ((c.tc : Thread KernelIdeal.nD KernelIdeal.τ).loc KernelIdeal.main_arg5))
    (e6 : m' ((c.tc : Thread ReferenceIdeal.nD ReferenceIdeal.τ).loc ReferenceIdeal.main_arg6) = m ((c.tc : Thread KernelIdeal.nD KernelIdeal.τ).loc KernelIdeal.main_arg6))
    (e7 : m' ((c.tc : Thread ReferenceIdeal.nD ReferenceIdeal.τ).loc ReferenceIdeal.main_arg7) = m ((c.tc : Thread KernelIdeal.nD KernelIdeal.τ).loc KernelIdeal.main_arg7))
    (e8 : m' ((c.tc : Thread ReferenceIdeal.nD ReferenceIdeal.τ).loc ReferenceIdeal.main_arg8) = m ((c.tc : Thread KernelIdeal.nD KernelIdeal.τ).loc KernelIdeal.main_arg8))
    (e9 : m' ((c.tc : Thread ReferenceIdeal.nD ReferenceIdeal.τ).loc ReferenceIdeal.main_arg9) = m ((c.tc : Thread KernelIdeal.nD KernelIdeal.τ).loc KernelIdeal.main_arg9))
    (e10 : m' ((c.tc : Thread ReferenceIdeal.nD ReferenceIdeal.τ).loc ReferenceIdeal.main_arg10) = m ((c.tc : Thread KernelIdeal.nD KernelIdeal.τ).loc KernelIdeal.main_arg10)) :
    ReferenceIdeal.Value.res_main_v68 m' c = W4 m ρ c (Proc.devRef .tc KernelIdeal.main_v15) := by
  obtain ⟨r0, r1, r2, r3, r4, r5, r6, r7, r8, r9⟩ := of_pre _ _ _ _ _ _ _ _ _ _ _ (hpre c)
  obtain ⟨X, h0⟩ := real3 _ r0
  obtain ⟨Wq, h1⟩ := real2 _ r1
  obtain ⟨bq, h2⟩ := real1 _ r2
  obtain ⟨Wk, h3⟩ := real2 _ r3
  obtain ⟨bk, h4⟩ := real1 _ r4
  obtain ⟨Wv, h5⟩ := real2 _ r5
  obtain ⟨bv, h6⟩ := real1 _ r6
  obtain ⟨gq, h7⟩ := real1 _ r7
  obtain ⟨gk, h8⟩ := real1 _ r8
  obtain ⟨Wo, h9⟩ := real2 _ r9
  obtain ⟨bo, h10⟩ := any1 (n := 2048) (m ((c.tc : Thread KernelIdeal.nD KernelIdeal.τ).loc KernelIdeal.main_arg10))
  refine Eq.trans ?_ (KernelIdeal.Result.res_apply m ρ c X Wq Wk Wv Wo bq bk bv gq gk h0 h1 h2 h3 h4 h5 h6 h7 h8 h9 bo h10).symm
  funext i
  refine (ReferenceIdeal.Stages.res_apply m' c X Wq Wk Wv Wo bq bk bv gq gk (fun i => (congrFun e0 i).trans (h0 i))
    (fun i => (congrFun e1 i).trans (h1 i)) (fun i => (congrFun e2 i).trans (h2 i)) (fun i => (congrFun e3 i).trans (h3 i))
    (fun i => (congrFun e4 i).trans (h4 i)) (fun i => (congrFun e5 i).trans (h5 i)) (fun i => (congrFun e6 i).trans (h6 i))
    (fun i => (congrFun e7 i).trans (h7 i)) (fun i => (congrFun e8 i).trans (h8 i)) (fun i => (congrFun e9 i).trans (h9 i)) i).trans ?_
  rw [show (m' ((c.tc : Thread ReferenceIdeal.nD ReferenceIdeal.τ).loc ReferenceIdeal.main_arg10) : FVec Ideal ReferenceIdeal.S2048 .f32) (ix1 (i 2))
    = bo (i 2).val from (congrFun e10 _).trans (h10 _)]
  rw [← Bridge.layer_eq X Wq Wk Wv bq bk bv gq gk (Wo (i 2).val) _ (fun _ _ => rfl) (i 0).val (i 1).val (i 1).2, EReal.coe_add,
    add_assoc, add_comm (Real.toEReal (∑ k ∈ Finset.range 2048, bv k * Wo (i 2).val k))]
  rfl

/-- The idealized kernel computes the idealized reference's result, from arguments that meet the precondition. -/
theorem algebraic_kernel : Cert.algebraic_KernelIdeal_ReferenceIdeal_pre_finite_args := by
  intro m ρ m' ρ' hpre hag
  refine ⟨fun c => KernelIdeal.Gen.W4 m ρ c (Proc.devRef .tc KernelIdeal.main_v15), ?_, ?_⟩
  · refine (θ_run KernelIdeal.defs _ _).mono (fun r h c => ?_) (KernelIdeal.Result.run (F := Ideal) m ρ)
    exact ⟨h c _ (KernelIdeal.Gen.mem_uc KernelIdeal.main_v15 (by decide)),
      (h c _ (KernelIdeal.Gen.mem_uc KernelIdeal.main_arg0 (by decide))).trans (KernelIdeal.Gen.W4_main_arg0 m ρ c),
      (h c _ (KernelIdeal.Gen.mem_uc KernelIdeal.main_arg1 (by decide))).trans (KernelIdeal.Gen.W4_main_arg1 m ρ c),
      (h c _ (KernelIdeal.Gen.mem_uc KernelIdeal.main_arg2 (by decide))).trans (KernelIdeal.Gen.W4_main_arg2 m ρ c),
      (h c _ (KernelIdeal.Gen.mem_uc KernelIdeal.main_arg3 (by decide))).trans (KernelIdeal.Gen.W4_main_arg3 m ρ c),
      (h c _ (KernelIdeal.Gen.mem_uc KernelIdeal.main_arg4 (by decide))).trans (KernelIdeal.Gen.W4_main_arg4 m ρ c),
      (h c _ (KernelIdeal.Gen.mem_uc KernelIdeal.main_arg5 (by decide))).trans (KernelIdeal.Gen.W4_main_arg5 m ρ c),
      (h c _ (KernelIdeal.Gen.mem_uc KernelIdeal.main_arg6 (by decide))).trans (KernelIdeal.Gen.W4_main_arg6 m ρ c),
      (h c _ (KernelIdeal.Gen.mem_uc KernelIdeal.main_arg7 (by decide))).trans (KernelIdeal.Gen.W4_main_arg7 m ρ c),
      (h c _ (KernelIdeal.Gen.mem_uc KernelIdeal.main_arg8 (by decide))).trans (KernelIdeal.Gen.W4_main_arg8 m ρ c),
      (h c _ (KernelIdeal.Gen.mem_uc KernelIdeal.main_arg9 (by decide))).trans (KernelIdeal.Gen.W4_main_arg9 m ρ c),
      (h c _ (KernelIdeal.Gen.mem_uc KernelIdeal.main_arg10 (by decide))).trans (KernelIdeal.Gen.W4_main_arg10 m ρ c)⟩
  · refine (θ_run ReferenceIdeal.defs _ _).mono (fun r h c => ⟨(h c).1.trans ?_, (h c).2⟩) (ReferenceIdeal.Value.run (F := Ideal) m' ρ')
    obtain ⟨e0, e1, e2, e3, e4, e5, e6, e7, e8, e9, e10⟩ := hag c
    exact result_eq m ρ m' c hpre e0 e1 e2 e3 e4 e5 e6 e7 e8 e9 e10

end Cert.Proof

end
-- ==== Proof.lean ====
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.Pre_finite_args

@[expose] public section

noncomputable section

namespace Cert.Proof

/-- Every claim of this directory. -/
theorem claim : Cert.Claim :=
  ⟨Cert.Kernel.Gen.facts, Cert.KernelIdeal.Gen.facts, Cert.ReferenceIdeal.Gen.facts, Cert.Pre_finite_args.Gen.facts,
    frame_kernel, frame_kernelIdeal, frame_kernelIdeal_finite, frame_referenceIdeal, frame_referenceIdeal_finite, preserves_kernel,
    algebraic_kernel⟩

end Cert.Proof

end
